-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v52_0)) (v1 : (c : Dev Cert.Kernel3Ideal.nD) → Buf (Elt Ideal) ((c.tc : Thread Cert.Kernel3Ideal.nD Cert.Kernel3Ideal.τ).loc Cert.Kernel3Ideal.main_v52_1)) (v2 : (c : Dev Cert.Kernel3Ideal.nD) → Buf (Elt Ideal) ((c.tc : Thread Cert.Kernel3Ideal.nD Cert.Kernel3Ideal.τ).loc Cert.Kernel3Ideal.main_v52_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v52_0) = v0 c
          ∧ r.2.mem ((c.tc : Thread Cert.Kernel3Ideal.nD Cert.Kernel3Ideal.τ).loc Cert.Kernel3Ideal.main_v52_1) = v1 c
          ∧ r.2.mem ((c.tc : Thread Cert.Kernel3Ideal.nD Cert.Kernel3Ideal.τ).loc Cert.Kernel3Ideal.main_v52_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v147) = v0 c
          ∧ r.2.mem ((c.tc : Thread Cert.Reference3Ideal.nD Cert.Reference3Ideal.τ).loc Cert.Reference3Ideal.main_v148) = v1 c
          ∧ r.2.mem ((c.tc : Thread Cert.Reference3Ideal.nD Cert.Reference3Ideal.τ).loc Cert.Reference3Ideal.main_v152) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel2.lean ====
abbrev S16x2048x1024 : Shape := ⟨3, ![16, 2048, 1024]⟩
abbrev S16x2048x1 : Shape := ⟨3, ![16, 2048, 1]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x1024 : Shape := ⟨3, ![16, 2816, 1024]⟩
abbrev S1x2048x1024 : Shape := ⟨3, ![1, 2048, 1024]⟩
abbrev S1x2048x1 : Shape := ⟨3, ![1, 2048, 1]⟩
abbrev S1x1024x256 : Shape := ⟨3, ![1, 1024, 256]⟩
abbrev S1x256x1024 : Shape := ⟨3, ![1, 256, 1024]⟩
abbrev S2048x1024 : Shape := ⟨2, ![2048, 1024]⟩
abbrev S1024x256 : Shape := ⟨2, ![1024, 256]⟩
abbrev S2048x256 : Shape := ⟨2, ![2048, 256]⟩
abbrev S256x1024 : Shape := ⟨2, ![256, 1024]⟩
abbrev S2048x1 : Shape := ⟨2, ![2048, 1]⟩

abbrev nBuf : Space → Nat
  | .hbm => 9
  | .vmem => 13
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S16x1024x2816, .f32⟩
  | .hbm, ⟨6, _⟩ => ⟨S16x1024x2816, .f32⟩
  | .hbm, ⟨7, _⟩ => ⟨S16x2816x1024, .f32⟩
  | .hbm, ⟨8, _⟩ => ⟨S16x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1, .f32⟩
  | .local _ .vmem, ⟨3, _⟩ => ⟨S1x2048x1, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1x2048x1024, .bf16⟩
  | .local _ .vmem, ⟨11, _⟩ => ⟨S1x2048x1024, .bf16⟩
  | .local _ .vmem, ⟨12, _⟩ => ⟨S2048x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v32 : BitVec 1 := Scalar.cmpi .eq arg1 c10_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2048x1024 : Shape := ⟨3, ![16, 2048, 1024]⟩
abbrev S16x2048x1 : Shape := ⟨3, ![16, 2048, 1]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2048x2816 : Shape := ⟨3, ![16, 2048, 2816]⟩
abbrev S_ : Shape := ⟨0, ![]⟩
abbrev S16x2816x1024 : Shape := ⟨3, ![16, 2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S16x2048x1024, .f32⟩
  | .hbm, ⟨6, _⟩ => ⟨S16x1024x2816, .f32⟩
  | .hbm, ⟨7, _⟩ => ⟨S16x2048x2816, .f32⟩
  | .hbm, ⟨8, _⟩ => ⟨S16x1024x2816, .f32⟩
  | .hbm, ⟨9, _⟩ => ⟨S16x2048x2816, .f32⟩
  | .hbm, ⟨10, _⟩ => ⟨S16x2048x2816, .f32⟩
  | .hbm, ⟨11, _⟩ => ⟨S16x2048x2816, .f32⟩
  | .hbm, ⟨12, _⟩ => ⟨S_, .f32⟩
  | .hbm, ⟨13, _⟩ => ⟨S16x2048x2816, .f32⟩
  | .hbm, ⟨14, _⟩ => ⟨S16x2048x2816, .f32⟩
  | .hbm, ⟨15, _⟩ => ⟨S_, .f32⟩
  | .hbm, ⟨16, _⟩ => ⟨S16x2048x2816, .f32⟩
  | .hbm, ⟨17, _⟩ => ⟨S16x2048x2816, .f32⟩
  | .hbm, ⟨18, _⟩ => ⟨S16x2048x2816, .f32⟩
  | .hbm, ⟨19, _⟩ => ⟨S16x2048x2816, .f32⟩
  | .hbm, ⟨20, _⟩ => ⟨S16x2816x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024 : Shape := ⟨2, ![1, 1024]⟩
abbrev S4x1x1024 : Shape := ⟨3, ![4, 1, 1024]⟩
abbrev S1x1024x4112 : Shape := ⟨3, ![1, 1024, 4112]⟩
abbrev S1x16 : Shape := ⟨2, ![1, 16]⟩
abbrev S1024x4112 : Shape := ⟨2, ![1024, 4112]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S1024 : Shape := ⟨1, ![1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x1x128 : Shape := ⟨4, ![1, 4096, 1, 128]⟩
abbrev S1x4096x4x128 : Shape := ⟨4, ![1, 4096, 4, 128]⟩
abbrev S4096x512 : Shape := ⟨2, ![4096, 512]⟩
abbrev S4x4096x2048 : Shape := ⟨3, ![4, 4096, 2048]⟩
abbrev S4x4096x128 : Shape := ⟨3, ![4, 4096, 128]⟩
abbrev S1x512x1024 : Shape := ⟨3, ![1, 512, 1024]⟩
abbrev S1x1x1024 : Shape := ⟨3, ![1, 1, 1024]⟩
abbrev S512x512 : Shape := ⟨2, ![512, 512]⟩
abbrev S1x512x2048 : Shape := ⟨3, ![1, 512, 2048]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S1x512x512 : Shape := ⟨3, ![1, 512, 512]⟩
abbrev S512x128 : Shape := ⟨2, ![512, 128]⟩

abbrev nBuf : Space → Nat
  | .hbm => 67
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1x1024x4112, .f32⟩
  | .hbm, ⟨5, _⟩ => ⟨S1x16, .f32⟩
  | .hbm, ⟨6, _⟩ => ⟨S1024x4112, .f32⟩
  | .hbm, ⟨7, _⟩ => ⟨S1024x2048, .f32⟩
  | .hbm, ⟨8, _⟩ => ⟨S1024x2048, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x2048, .f32⟩
  | .hbm, ⟨15, _⟩ => ⟨S1024x2048, .bf16⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1024, .f32⟩
  | .hbm, ⟨22, _⟩ => ⟨S1x1024, .f32⟩
  | .hbm, ⟨23, _⟩ => ⟨S64, .f32⟩
  | .hbm, ⟨24, _⟩ => ⟨S64x64, .f32⟩
  | .hbm, ⟨25, _⟩ => ⟨S4096, .f32⟩
  | .hbm, ⟨26, _⟩ => ⟨S64, .f32⟩
  | .hbm, ⟨27, _⟩ => ⟨S1x64, .f32⟩
  | .hbm, ⟨28, _⟩ => ⟨S64x64, .f32⟩
  | .hbm, ⟨29, _⟩ => ⟨S4096, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S4096x1, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x1, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x128, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x128, .f32⟩
  | .hbm, ⟨58, _⟩ => ⟨S1x4096x1x128, .f32⟩
  | .hbm, ⟨59, _⟩ => ⟨S1x4096x4x128, .f32⟩
  | .hbm, ⟨60, _⟩ => ⟨S4096x512, .f32⟩
  | .hbm, ⟨61, _⟩ => ⟨S1x4096x1x128, .f32⟩
  | .hbm, ⟨62, _⟩ => ⟨S1x4096x4x128, .f32⟩
  | .hbm, ⟨63, _⟩ => ⟨S4096x512, .f32⟩
  | .hbm, ⟨64, _⟩ => ⟨S4x4096x2048, .bf16⟩
  | .hbm, ⟨65, _⟩ => ⟨S4x4096x128, .f32⟩
  | .hbm, ⟨66, _⟩ => ⟨S4x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x128, .bf16⟩
  | .local _ .vmem, ⟨9, _⟩ => ⟨S1024x2048, .bf16⟩
  | .local _ .vmem, ⟨10, _⟩ => ⟨S1x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512x2048, .bf16⟩
  | .local _ .vmem, ⟨16, _⟩ => ⟨S1x512x2048, .bf16⟩
  | .local _ .vmem, ⟨17, _⟩ => ⟨S1x512x128, .f32⟩
  | .local _ .vmem, ⟨18, _⟩ => ⟨S1x512x128, .f32⟩
  | .local _ .vmem, ⟨19, _⟩ => ⟨S1x512x2048, .bf16⟩
  | .local _ .vmem, ⟨20, _⟩ => ⟨S1x512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x4096x1024 : Shape := ⟨3, ![4, 4096, 1024]⟩
abbrev S1x1024 : Shape := ⟨2, ![1, 1024]⟩
abbrev S4x1x1024 : Shape := ⟨3, ![4, 1, 1024]⟩
abbrev S1x1024x4112 : Shape := ⟨3, ![1, 1024, 4112]⟩
abbrev S1x16 : Shape := ⟨2, ![1, 16]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4112 : Shape := ⟨2, ![1024, 4112]⟩
abbrev S4x4096x4112 : Shape := ⟨3, ![4, 4096, 4112]⟩
abbrev S4x4096x512 : Shape := ⟨3, ![4, 4096, 512]⟩
abbrev S4x4096x16 : Shape := ⟨3, ![4, 4096, 16]⟩
abbrev S16 : Shape := ⟨1, ![16]⟩
abbrev S1x1x16 : Shape := ⟨3, ![1, 1, 16]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x4x128 : Shape := ⟨4, ![4, 4096, 4, 128]⟩
abbrev S4x4096x4x64 : Shape := ⟨4, ![4, 4096, 4, 64]⟩
abbrev S4x4096x4x32 : Shape := ⟨4, ![4, 4096, 4, 32]⟩
abbrev S1x4096x1x32 : Shape := ⟨4, ![1, 4096, 1, 32]⟩
abbrev S4x4096x2048 : Shape := ⟨3, ![4, 4096, 2048]⟩
abbrev S4x4096x128 : Shape := ⟨3, ![4, 4096, 128]⟩

abbrev nBuf : Space → Nat
  | .hbm => 169
  | .vmem => 0
  | .smem => 0
  | _ => 0

abbrev hbmTy0_0 (i : Nat) : BufTy := match i % 128 with
  | 0 => ⟨S4x4096x1024, .f32⟩
  | 1 => ⟨S1x1024, .f32⟩
  | 2 => ⟨S4x1x1024, .f32⟩
  | 3 => ⟨S4x1x1024, .f32⟩
  | 4 => ⟨S1x1024x4112, .f32⟩
  | 5 => ⟨S1x16, .f32⟩
  | 6 => ⟨S1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S_, .f32⟩
  | 24 => ⟨S4x1x1024, .f32⟩
  | 25 => ⟨S4x1x1024, .f32⟩
  | 26 => ⟨S4x4096x1024, .f32⟩
  | 27 => ⟨S4x4096x1024, .f32⟩
  | 28 => ⟨S4x4096x1024, .f32⟩
  | 29 => ⟨S4x4096x1024, .f32⟩
  | 30 => ⟨S1024x4112, .f32⟩
  | 31 => ⟨S4x4096x4112, .f32⟩
  | 32 => ⟨S4x4096x512, .f32⟩
  | 33 => ⟨S4x4096x512, .f32⟩
  | 34 => ⟨S4x4096x512, .f32⟩
  | 35 => ⟨S4x4096x512, .f32⟩
  | 36 => ⟨S4x4096x16, .f32⟩
  | 37 => ⟨S4x4096x512, .f32⟩
  | 38 => ⟨S4x4096x512, .f32⟩
  | 39 => ⟨S4x4096x512, .f32⟩
  | 40 => ⟨S4x4096x512, .f32⟩
  | 41 => ⟨S_, .f32⟩
  | 42 => ⟨S4x4096x512, .f32⟩
  | 43 => ⟨S4x4096x512, .f32⟩
  | 44 => ⟨S16, .f32⟩
  | 45 => ⟨S1x1x16, .f32⟩
  | 46 => ⟨S4x4096x16, .f32⟩
  | 47 => ⟨S4x4096x16, .f32⟩
  | 48 => ⟨S64, .f32⟩
  | 49 => ⟨S64x64, .f32⟩
  | 50 => ⟨S4096, .f32⟩
  | 51 => ⟨S64, .f32⟩
  | 52 => ⟨S1x64, .f32⟩
  | 53 => ⟨S64x64, .f32⟩
  | 54 => ⟨S4096, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S4096x1, .f32⟩
  | 64 => ⟨S1x32, .f32⟩
  | 65 => ⟨S4096x32, .f32⟩
  | 66 => ⟨S4096x32, .f32⟩
  | 67 => ⟨S4096x32, .f32⟩
  | 68 => ⟨S4096x1, .f32⟩
  | 69 => ⟨S1x32, .f32⟩
  | 70 => ⟨S4096x32, .f32⟩
  | 71 => ⟨S4096x32, .f32⟩
  | 72 => ⟨S4096x32, .f32⟩
  | 73 => ⟨S4096x32, .f32⟩
  | 74 => ⟨S4096x32, .f32⟩
  | 75 => ⟨S4096x32, .f32⟩
  | 76 => ⟨S4096x32, .f32⟩
  | 77 => ⟨S4096x1x32, .f32⟩
  | 78 => ⟨S4096x1x32, .f32⟩
  | 79 => ⟨S4096x1x32, .f32⟩
  | 80 => ⟨S4096x1x32, .f32⟩
  | 81 => ⟨S4x4096x4x128, .f32⟩
  | 82 => ⟨S4x4096x4x64, .f32⟩
  | 83 => ⟨S4x4096x4x32, .f32⟩
  | 84 => ⟨S4x4096x4x32, .f32⟩
  | 85 => ⟨S1x4096x1x32, .f32⟩
  | 86 => ⟨S4x4096x4x32, .f32⟩
  | 87 => ⟨S4x4096x4x32, .f32⟩
  | 88 => ⟨S1x4096x1x32, .f32⟩
  | 89 => ⟨S4x4096x4x32, .f32⟩
  | 90 => ⟨S4x4096x4x32, .f32⟩
  | 91 => ⟨S4x4096x4x32, .f32⟩
  | 92 => ⟨S1x4096x1x32, .f32⟩
  | 93 => ⟨S4x4096x4x32, .f32⟩
  | 94 => ⟨S4x4096x4x32, .f32⟩
  | 95 => ⟨S1x4096x1x32, .f32⟩
  | 96 => ⟨S4x4096x4x32, .f32⟩
  | 97 => ⟨S4x4096x4x32, .f32⟩
  | 98 => ⟨S4x4096x4x32, .f32⟩
  | 99 => ⟨S4x4096x4x64, .f32⟩
  | 100 => ⟨S4x4096x4x64, .f32⟩
  | 101 => ⟨S4x4096x4x32, .f32⟩
  | 102 => ⟨S4x4096x4x32, .f32⟩
  | 103 => ⟨S1x4096x1x32, .f32⟩
  | 104 => ⟨S4x4096x4x32, .f32⟩
  | 105 => ⟨S4x4096x4x32, .f32⟩
  | 106 => ⟨S1x4096x1x32, .f32⟩
  | 107 => ⟨S4x4096x4x32, .f32⟩
  | 108 => ⟨S4x4096x4x32, .f32⟩
  | 109 => ⟨S4x4096x4x32, .f32⟩
  | 110 => ⟨S1x4096x1x32, .f32⟩
  | 111 => ⟨S4x4096x4x32, .f32⟩
  | 112 => ⟨S4x4096x4x32, .f32⟩
  | 113 => ⟨S1x4096x1x32, .f32⟩
  | 114 => ⟨S4x4096x4x32, .f32⟩
  | 115 => ⟨S4x4096x4x32, .f32⟩
  | 116 => ⟨S4x4096x4x32, .f32⟩
  | 117 => ⟨S4x4096x4x64, .f32⟩
  | 118 => ⟨S4x4096x4x128, .f32⟩
  | 119 => ⟨S4x4096x4x128, .f32⟩
  | 120 => ⟨S_, .f32⟩
  | 121 => ⟨S4x4096x4x128, .f32⟩
  | 122 => ⟨S4x4096x4x128, .f32⟩
  | 123 => ⟨S4x4096x4x64, .f32⟩
  | 124 => ⟨S4x4096x4x32, .f32⟩
  | 125 => ⟨S4x4096x4x32, .f32⟩
  | 126 => ⟨S1x4096x1x32, .f32⟩
  | 127 => ⟨S4x4096x4x32, .f32⟩
  | _ => ⟨S4x4096x1024, .f32⟩

abbrev hbmTy0_1 (i : Nat) : BufTy := match i % 128 with
  | 0 => ⟨S4x4096x4x32, .f32⟩
  | 1 => ⟨S1x4096x1x32, .f32⟩
  | 2 => ⟨S4x4096x4x32, .f32⟩
  | 3 => ⟨S4x4096x4x32, .f32⟩
  | 4 => ⟨S4x4096x4x32, .f32⟩
  | 5 => ⟨S1x4096x1x32, .f32⟩
  | 6 => ⟨S4x4096x4x32, .f32⟩
  | 7 => ⟨S4x4096x4x32, .f32⟩
  | 8 => ⟨S1x4096x1x32, .f32⟩
  | 9 => ⟨S4x4096x4x32, .f32⟩
  | 10 => ⟨S4x4096x4x32, .f32⟩
  | 11 => ⟨S4x4096x4x32, .f32⟩
  | 12 => ⟨S4x4096x4x64, .f32⟩
  | 13 => ⟨S4x4096x4x64, .f32⟩
  | 14 => ⟨S4x4096x4x32, .f32⟩
  | 15 => ⟨S4x4096x4x32, .f32⟩
  | 16 => ⟨S1x4096x1x32, .f32⟩
  | 17 => ⟨S4x4096x4x32, .f32⟩
  | 18 => ⟨S4x4096x4x32, .f32⟩
  | 19 => ⟨S1x4096x1x32, .f32⟩
  | 20 => ⟨S4x4096x4x32, .f32⟩
  | 21 => ⟨S4x4096x4x32, .f32⟩
  | 22 => ⟨S4x4096x4x32, .f32⟩
  | 23 => ⟨S1x4096x1x32, .f32⟩
  | 24 => ⟨S4x4096x4x32, .f32⟩
  | 25 => ⟨S4x4096x4x32, .f32⟩
  | 26 => ⟨S1x4096x1x32, .f32⟩
  | 27 => ⟨S4x4096x4x32, .f32⟩
  | 28 => ⟨S4x4096x4x32, .f32⟩
  | 29 => ⟨S4x4096x4x32, .f32⟩
  | 30 => ⟨S4x4096x4x64, .f32⟩
  | 31 => ⟨S4x4096x4x128, .f32⟩
  | 32 => ⟨S4x4096x2048, .f32⟩
  | 33 => ⟨S4x4096x2048, .bf16⟩
  | 34 => ⟨S_, .i32⟩
  | 35 => ⟨S_, .f32⟩
  | 36 => ⟨S4x4096x128, .f32⟩
  | 37 => ⟨S4x4096x512, .f32⟩
  | 38 => ⟨S4x4096x512, .f32⟩
  | 39 => ⟨S4x4096x2048, .f32⟩
  | 40 => ⟨S4x4096x2048, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_cst_6 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_c : Ref sig .tc := ⟨.hbm, 162, rfl⟩
abbrev main_call0_v0 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩

abbrev nD : Nat := 1
abbrev τ : Topo := Topo.v7x

variable {F : FTy → Type} [FloatOps F]
-- ==== Kernel4.lean ====
abbrev S4x4096x512 : Shape := ⟨3, ![4, 4096, 512]⟩
abbrev S4x4096x1024 : Shape := ⟨3, ![4, 4096, 1024]⟩
abbrev S4x1x1024 : Shape := ⟨3, ![4, 1, 1024]⟩
abbrev S1x1024 : Shape := ⟨2, ![1, 1024]⟩
abbrev S1x1024x1024 : Shape := ⟨3, ![1, 1024, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S1024x1024 : Shape := ⟨2, ![1024, 1024]⟩
abbrev S1024 : Shape := ⟨1, ![1024]⟩
abbrev S4x4096x128 : Shape := ⟨3, ![4, 4096, 128]⟩
abbrev S1x512x512 : Shape := ⟨3, ![1, 512, 512]⟩
abbrev S1x512x1024 : Shape := ⟨3, ![1, 512, 1024]⟩
abbrev S1x1x1024 : Shape := ⟨3, ![1, 1, 1024]⟩
abbrev S1x512x128 : Shape := ⟨3, ![1, 512, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 20
  | .vmem => 21
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S4x1x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S1x1024x1024, .f32⟩
  | .hbm, ⟨8, _⟩ => ⟨S1x1024x16, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S4x4096x1024, .f32⟩
  | .hbm, ⟨18, _⟩ => ⟨S4x4096x1024, .bf16⟩
  | .hbm, ⟨19, _⟩ => ⟨S4x4096x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x128, .f32⟩
  | .local _ .vmem, ⟨20, _⟩ => ⟨S1x512x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S4x4096x512 : Shape := ⟨3, ![4, 4096, 512]⟩
abbrev S4x4096x1024 : Shape := ⟨3, ![4, 4096, 1024]⟩
abbrev S4x1x1024 : Shape := ⟨3, ![4, 1, 1024]⟩
abbrev S1x1024 : Shape := ⟨2, ![1, 1024]⟩
abbrev S1x1024x1024 : Shape := ⟨3, ![1, 1024, 1024]⟩
abbrev S1x1024x16 : Shape := ⟨3, ![1, 1024, 16]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x16 : Shape := ⟨2, ![1024, 16]⟩
abbrev S4x4096x16 : Shape := ⟨3, ![4, 4096, 16]⟩
abbrev S4x4096x128 : Shape := ⟨3, ![4, 4096, 128]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S4x1x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S1x1024x1024, .f32⟩
  | .hbm, ⟨8, _⟩ => ⟨S1x1024x16, .f32⟩
  | .hbm, ⟨9, _⟩ => ⟨S4x4096x512, .f32⟩
  | .hbm, ⟨10, _⟩ => ⟨S4x4096x512, .f32⟩
  | .hbm, ⟨11, _⟩ => ⟨S4x4096x1024, .f32⟩
  | .hbm, ⟨12, _⟩ => ⟨S1024x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1024x16, .f32⟩
  | .hbm, ⟨42, _⟩ => ⟨S4x4096x16, .f32⟩
  | .hbm, ⟨43, _⟩ => ⟨S_, .f32⟩
  | .hbm, ⟨44, _⟩ => ⟨S_, .f32⟩
  | .hbm, ⟨45, _⟩ => ⟨S4x4096x128, .f32⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S4x4096x1, .f32⟩
  | .hbm, ⟨52, _⟩ => ⟨S4x4096x128, .f32⟩
  | .hbm, ⟨53, _⟩ => ⟨S4x4096x128, .f32⟩
  | .hbm, ⟨54, _⟩ => ⟨S4x4096x128, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S4x4096x128, .f32⟩
  | .hbm, ⟨59, _⟩ => ⟨S4x4096x128, .f32⟩
  | .hbm, ⟨60, _⟩ => ⟨S4x4096x1024, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_call0_v0 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel5.lean ====
abbrev S16x4x512x1024 : Shape := ⟨4, ![16, 4, 512, 1024]⟩
abbrev S4x16x4096 : Shape := ⟨3, ![4, 16, 4096]⟩
abbrev S4x4096x1024 : Shape := ⟨3, ![4, 4096, 1024]⟩
abbrev S4x1x1024 : Shape := ⟨3, ![4, 1, 1024]⟩
abbrev S1024 : Shape := ⟨1, ![1024]⟩
abbrev S4x4096x16 : Shape := ⟨3, ![4, 4096, 16]⟩
abbrev S1x1024 : Shape := ⟨2, ![1, 1024]⟩
abbrev S16x1x512x1024 : Shape := ⟨4, ![16, 1, 512, 1024]⟩
abbrev S1x512x16 : Shape := ⟨3, ![1, 512, 16]⟩
abbrev S1x512x1024 : Shape := ⟨3, ![1, 512, 1024]⟩
abbrev S1x1x1024 : Shape := ⟨3, ![1, 1, 1024]⟩
abbrev S512x512 : Shape := ⟨2, ![512, 512]⟩
abbrev S512x16 : Shape := ⟨2, ![512, 16]⟩
abbrev S512x1024 : Shape := ⟨2, ![512, 1024]⟩
abbrev S512x1 : Shape := ⟨2, ![512, 1]⟩
abbrev S1x1x512x1024 : Shape := ⟨4, ![1, 1, 512, 1024]⟩
abbrev S512 : Shape := ⟨1, ![512]⟩

abbrev nBuf : Space → Nat
  | .hbm => 8
  | .vmem => 11
  | .smem => 0
  | _ => 0

abbrev bufTy : (tb : Table) → Fin (tcTables nBuf tb) → BufTy
  | .hbm, ⟨0, _⟩ => ⟨S16x4x512x1024, .bf16⟩
  | .hbm, ⟨1, _⟩ => ⟨S4x16x4096, .i32⟩
  | .hbm, ⟨2, _⟩ => ⟨S4x4096x1024, .f32⟩
  | .hbm, ⟨3, _⟩ => ⟨S4x1x1024, .f32⟩
  | .hbm, ⟨4, _⟩ => ⟨S1024, .f32⟩
  | .hbm, ⟨5, _⟩ => ⟨S4x4096x16, .i32⟩
  | .hbm, ⟨6, _⟩ => ⟨S1x1024, .f32⟩
  | .hbm, ⟨7, _⟩ => ⟨S4x4096x1024, .f32⟩
  | .local _ .vmem, ⟨0, _⟩ => ⟨S16x1x512x1024, .bf16⟩
  | .local _ .vmem, ⟨1, _⟩ => ⟨S16x1x512x1024, .bf16⟩
  | .local _ .vmem, ⟨2, _⟩ => ⟨S1x512x16, .i32⟩
  | .local _ .vmem, ⟨3, _⟩ => ⟨S1x512x16, .i32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S16x4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16x4x512x1024 : Shape := ⟨4, ![16, 4, 512, 1024]⟩
abbrev S4x16x4096 : Shape := ⟨3, ![4, 16, 4096]⟩
abbrev S4x4096x1024 : Shape := ⟨3, ![4, 4096, 1024]⟩
abbrev S4x1x1024 : Shape := ⟨3, ![4, 1, 1024]⟩
abbrev S1024 : Shape := ⟨1, ![1024]⟩
abbrev S4x16x512x1024 : Shape := ⟨4, ![4, 16, 512, 1024]⟩
abbrev S_ : Shape := ⟨0, ![]⟩
abbrev S4x16x4096x1 : Shape := ⟨4, ![4, 16, 4096, 1]⟩
abbrev S4x16x4096x1024 : Shape := ⟨4, ![4, 16, 4096, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x4x512x1024, .bf16⟩
  | .hbm, ⟨1, _⟩ => ⟨S4x16x4096, .i32⟩
  | .hbm, ⟨2, _⟩ => ⟨S4x4096x1024, .f32⟩
  | .hbm, ⟨3, _⟩ => ⟨S4x1x1024, .f32⟩
  | .hbm, ⟨4, _⟩ => ⟨S1024, .f32⟩
  | .hbm, ⟨5, _⟩ => ⟨S4x16x512x1024, .bf16⟩
  | .hbm, ⟨6, _⟩ => ⟨S4x16x512x1024, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4x16x4096, .i32⟩
  | .hbm, ⟨11, _⟩ => ⟨S4x16x4096, .i32⟩
  | .hbm, ⟨12, _⟩ => ⟨S_, .i32⟩
  | .hbm, ⟨13, _⟩ => ⟨S4x16x4096, .i32⟩
  | .hbm, ⟨14, _⟩ => ⟨S4x16x4096, .i32⟩
  | .hbm, ⟨15, _⟩ => ⟨S_, .i32⟩
  | .hbm, ⟨16, _⟩ => ⟨S4x16x4096, .i32⟩
  | .hbm, ⟨17, _⟩ => ⟨S4x16x4096, .i1⟩
  | .hbm, ⟨18, _⟩ => ⟨S_, .i32⟩
  | .hbm, ⟨19, _⟩ => ⟨S4x16x4096, .i32⟩
  | .hbm, ⟨20, _⟩ => ⟨S4x16x4096, .i32⟩
  | .hbm, ⟨21, _⟩ => ⟨S4x16x4096, .i32⟩
  | .hbm, ⟨22, _⟩ => ⟨S4x16x4096x1, .i32⟩
  | .hbm, ⟨23, _⟩ => ⟨S4x16x4096x1024, .f32⟩
  | .hbm, ⟨24, _⟩ => ⟨S_, .i32⟩
  | .hbm, ⟨25, _⟩ => ⟨S4x16x4096, .i32⟩
  | .hbm, ⟨26, _⟩ => ⟨S4x16x4096, .i1⟩
  | .hbm, ⟨27, _⟩ => ⟨S_, .i32⟩
  | .hbm, ⟨28, _⟩ => ⟨S4x16x4096, .i32⟩
  | .hbm, ⟨29, _⟩ => ⟨S4x16x4096, .i1⟩
  | .hbm, ⟨30, _⟩ => ⟨S4x16x4096, .i1⟩
  | .hbm, ⟨31, _⟩ => ⟨S4x16x4096x1, .i1⟩
  | .hbm, ⟨32, _⟩ => ⟨S_, .i32⟩
  | .hbm, ⟨33, _⟩ => ⟨S_, .f32⟩
  | .hbm, ⟨34, _⟩ => ⟨S4x16x4096x1024, .i1⟩
  | .hbm, ⟨35, _⟩ => ⟨S4x16x4096x1024, .f32⟩
  | .hbm, ⟨36, _⟩ => ⟨S4x16x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | _, _ => ⟨S16x4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Kernel6.lean ====
abbrev S4x16x4096 : Shape := ⟨3, ![4, 16, 4096]⟩
abbrev S4x4096x1024 : Shape := ⟨3, ![4, 4096, 1024]⟩
abbrev S4x16x1x4096 : Shape := ⟨4, ![4, 16, 1, 4096]⟩
abbrev S16x4x512x1024 : Shape := ⟨4, ![16, 4, 512, 1024]⟩
abbrev S16x4x512x1 : Shape := ⟨4, ![16, 4, 512, 1]⟩
abbrev S1x1x1x4096 : Shape := ⟨4, ![1, 1, 1, 4096]⟩
abbrev S1x4096x1024 : Shape := ⟨3, ![1, 4096, 1024]⟩
abbrev S1x1x512x1024 : Shape := ⟨4, ![1, 1, 512, 1024]⟩
abbrev S1x1x512x1 : Shape := ⟨4, ![1, 1, 512, 1]⟩
abbrev S512x512 : Shape := ⟨2, ![512, 512]⟩
abbrev S512x1024 : Shape := ⟨2, ![512, 1024]⟩
abbrev S512x1 : Shape := ⟨2, ![512, 1]⟩
abbrev S1x1x1x512 : Shape := ⟨4, ![1, 1, 1, 512]⟩
abbrev S1x512 : Shape := ⟨2, ![1, 512]⟩
abbrev S1x512x1024 : Shape := ⟨3, ![1, 512, 1024]⟩
abbrev S512 : Shape := ⟨1, ![512]⟩

abbrev nBuf : Space → Nat
  | .hbm => 7
  | .vmem => 10
  | .smem => 0
  | _ => 0

abbrev bufTy : (tb : Table) → Fin (tcTables nBuf tb) → BufTy
  | .hbm, ⟨0, _⟩ => ⟨S4x16x4096, .i32⟩
  | .hbm, ⟨1, _⟩ => ⟨S4x16x4096, .f32⟩
  | .hbm, ⟨2, _⟩ => ⟨S4x4096x1024, .bf16⟩
  | .hbm, ⟨3, _⟩ => ⟨S4x16x1x4096, .i32⟩
  | .hbm, ⟨4, _⟩ => ⟨S4x16x1x4096, .f32⟩
  | .hbm, ⟨5, _⟩ => ⟨S16x4x512x1024, .bf16⟩
  | .hbm, ⟨6, _⟩ => ⟨S16x4x512x1, .f32⟩
  | .local _ .vmem, ⟨0, _⟩ => ⟨S1x1x1x4096, .i32⟩
  | .local _ .vmem, ⟨1, _⟩ => ⟨S1x1x1x4096, .i32⟩
  | .local _ .vmem, ⟨2, _⟩ => ⟨S1x1x1x4096, .f32⟩
  | .local _ .vmem, ⟨3, _⟩ => ⟨S1x1x1x4096, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x512x1, .f32⟩
  | .local _ .vmem, ⟨9, _⟩ => ⟨S1x1x512x1, .f32⟩
  | _, _ => ⟨S4x16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x16x4096 : Shape := ⟨3, ![4, 16, 4096]⟩
abbrev S4x4096x1024 : Shape := ⟨3, ![4, 4096, 1024]⟩
abbrev S_ : Shape := ⟨0, ![]⟩
abbrev S16 : Shape := ⟨1, ![16]⟩
abbrev S1x16x1 : Shape := ⟨3, ![1, 16, 1]⟩
abbrev S4 : Shape := ⟨1, ![4]⟩
abbrev S4x1x1 : Shape := ⟨3, ![4, 1, 1]⟩
abbrev S4x1x4096x1024 : Shape := ⟨4, ![4, 1, 4096, 1024]⟩
abbrev S4x16x4096x1024 : Shape := ⟨4, ![4, 16, 4096, 1024]⟩
abbrev S16x4x512x1024 : Shape := ⟨4, ![16, 4, 512, 1024]⟩
abbrev S4x16x4096x1 : Shape := ⟨4, ![4, 16, 4096, 1]⟩
abbrev S4x16x4096x3 : Shape := ⟨4, ![4, 16, 4096, 3]⟩
abbrev S16x4x512 : Shape := ⟨3, ![16, 4, 512]⟩
abbrev S16x4x512x1 : Shape := ⟨4, ![16, 4, 512, 1]⟩

abbrev nBuf : Space → Nat
  | .hbm => 77
  | .vmem => 0
  | .smem => 0
  | _ => 0

abbrev bufTy : (tb : Table) → Fin (tcTables nBuf tb) → BufTy
  | .hbm, ⟨0, _⟩ => ⟨S4x16x4096, .i32⟩
  | .hbm, ⟨1, _⟩ => ⟨S4x16x4096, .f32⟩
  | .hbm, ⟨2, _⟩ => ⟨S4x4096x1024, .bf16⟩
  | .hbm, ⟨3, _⟩ => ⟨S_, .i32⟩
  | .hbm, ⟨4, _⟩ => ⟨S4x16x4096, .i32⟩
  | .hbm, ⟨5, _⟩ => ⟨S4x16x4096, .i1⟩
  | .hbm, ⟨6, _⟩ => ⟨S_, .i32⟩
  | .hbm, ⟨7, _⟩ => ⟨S_, .i32⟩
  | .hbm, ⟨8, _⟩ => ⟨S4x16x4096, .i32⟩
  | .hbm, ⟨9, _⟩ => ⟨S4x16x4096, .i32⟩
  | .hbm, ⟨10, _⟩ => ⟨S16, .i32⟩
  | .hbm, ⟨11, _⟩ => ⟨S1x16x1, .i32⟩
  | .hbm, ⟨12, _⟩ => ⟨S4, .i32⟩
  | .hbm, ⟨13, _⟩ => ⟨S4x1x1, .i32⟩
  | .hbm, ⟨14, _⟩ => ⟨S4x1x4096x1024, .bf16⟩
  | .hbm, ⟨15, _⟩ => ⟨S4x16x4096x1024, .bf16⟩
  | .hbm, ⟨16, _⟩ => ⟨S_, .bf16⟩
  | .hbm, ⟨17, _⟩ => ⟨S16x4x512x1024, .bf16⟩
  | .hbm, ⟨18, _⟩ => ⟨S_, .i32⟩
  | .hbm, ⟨19, _⟩ => ⟨S1x16x1, .i32⟩
  | .hbm, ⟨20, _⟩ => ⟨S1x16x1, .i1⟩
  | .hbm, ⟨21, _⟩ => ⟨S_, .i32⟩
  | .hbm, ⟨22, _⟩ => ⟨S1x16x1, .i32⟩
  | .hbm, ⟨23, _⟩ => ⟨S1x16x1, .i32⟩
  | .hbm, ⟨24, _⟩ => ⟨S1x16x1, .i32⟩
  | .hbm, ⟨25, _⟩ => ⟨S_, .i32⟩
  | .hbm, ⟨26, _⟩ => ⟨S4x1x1, .i32⟩
  | .hbm, ⟨27, _⟩ => ⟨S4x1x1, .i1⟩
  | .hbm, ⟨28, _⟩ => ⟨S_, .i32⟩
  | .hbm, ⟨29, _⟩ => ⟨S4x1x1, .i32⟩
  | .hbm, ⟨30, _⟩ => ⟨S4x1x1, .i32⟩
  | .hbm, ⟨31, _⟩ => ⟨S4x1x1, .i32⟩
  | .hbm, ⟨32, _⟩ => ⟨S_, .i32⟩
  | .hbm, ⟨33, _⟩ => ⟨S4x16x4096, .i32⟩
  | .hbm, ⟨34, _⟩ => ⟨S4x16x4096, .i1⟩
  | .hbm, ⟨35, _⟩ => ⟨S_, .i32⟩
  | .hbm, ⟨36, _⟩ => ⟨S4x16x4096, .i32⟩
  | .hbm, ⟨37, _⟩ => ⟨S4x16x4096, .i32⟩
  | .hbm, ⟨38, _⟩ => ⟨S4x16x4096, .i32⟩
  | .hbm, ⟨39, _⟩ => ⟨S4x16x4096, .i32⟩
  | .hbm, ⟨40, _⟩ => ⟨S4x16x4096, .i32⟩
  | .hbm, ⟨41, _⟩ => ⟨S4x16x4096x1, .i32⟩
  | .hbm, ⟨42, _⟩ => ⟨S4x16x4096x1, .i32⟩
  | .hbm, ⟨43, _⟩ => ⟨S4x16x4096x1, .i32⟩
  | .hbm, ⟨44, _⟩ => ⟨S4x16x4096x3, .i32⟩
  | .hbm, ⟨45, _⟩ => ⟨S16x4x512x1024, .bf16⟩
  | .hbm, ⟨46, _⟩ => ⟨S_, .f32⟩
  | .hbm, ⟨47, _⟩ => ⟨S16x4x512, .f32⟩
  | .hbm, ⟨48, _⟩ => ⟨S_, .i32⟩
  | .hbm, ⟨49, _⟩ => ⟨S1x16x1, .i32⟩
  | .hbm, ⟨50, _⟩ => ⟨S1x16x1, .i1⟩
  | .hbm, ⟨51, _⟩ => ⟨S_, .i32⟩
  | .hbm, ⟨52, _⟩ => ⟨S1x16x1, .i32⟩
  | .hbm, ⟨53, _⟩ => ⟨S1x16x1, .i32⟩
  | .hbm, ⟨54, _⟩ => ⟨S1x16x1, .i32⟩
  | .hbm, ⟨55, _⟩ => ⟨S_, .i32⟩
  | .hbm, ⟨56, _⟩ => ⟨S4x1x1, .i32⟩
  | .hbm, ⟨57, _⟩ => ⟨S4x1x1, .i1⟩
  | .hbm, ⟨58, _⟩ => ⟨S_, .i32⟩
  | .hbm, ⟨59, _⟩ => ⟨S4x1x1, .i32⟩
  | .hbm, ⟨60, _⟩ => ⟨S4x1x1, .i32⟩
  | .hbm, ⟨61, _⟩ => ⟨S4x1x1, .i32⟩
  | .hbm, ⟨62, _⟩ => ⟨S_, .i32⟩
  | .hbm, ⟨63, _⟩ => ⟨S4x16x4096, .i32⟩
  | .hbm, ⟨64, _⟩ => ⟨S4x16x4096, .i1⟩
  | .hbm, ⟨65, _⟩ => ⟨S_, .i32⟩
  | .hbm, ⟨66, _⟩ => ⟨S4x16x4096, .i32⟩
  | .hbm, ⟨67, _⟩ => ⟨S4x16x4096, .i32⟩
  | .hbm, ⟨68, _⟩ => ⟨S4x16x4096, .i32⟩
  | .hbm, ⟨69, _⟩ => ⟨S4x16x4096, .i32⟩
  | .hbm, ⟨70, _⟩ => ⟨S4x16x4096, .i32⟩
  | .hbm, ⟨71, _⟩ => ⟨S4x16x4096x1, .i32⟩
  | .hbm, ⟨72, _⟩ => ⟨S4x16x4096x1, .i32⟩
  | .hbm, ⟨73, _⟩ => ⟨S4x16x4096x1, .i32⟩
  | .hbm, ⟨74, _⟩ => ⟨S4x16x4096x3, .i32⟩
  | .hbm, ⟨75, _⟩ => ⟨S16x4x512, .f32⟩
  | .hbm, ⟨76, _⟩ => ⟨S16x4x512x1, .f32⟩
  | _, _ => ⟨S4x16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_c_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_12 : Ref sig .tc := ⟨.hbm, 62, rfl⟩
abbrev main_v43 : Ref sig .tc := ⟨.hbm, 63, rfl⟩
abbrev main_v44 : Ref sig .tc := ⟨.hbm, 64, rfl⟩
abbrev main_c_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel7.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Ffn.lean ====
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.Kernel2Ideal.RefValue
open Cert.Kernel2Ideal Cert.Kernel2Ideal.Gen

variable (m : (ℓ : Loc nD τ sig) → Buf (Elt Ideal) ℓ)

/-! ## What one grid point computes -/

/-- The accumulator starts from zero. -/
theorem zero_fill (j : S2048x1024.Idx) : k0_pay2 (F := Ideal) j = (0 : EReal) := by
  pointwise [k0_pay2]

/-- A token's first projection through one tile of a weight. -/
abbrev proj (x : FVec Ideal S1x2048x1024 .bf16) (w : FVec Ideal S1x1024x256 .f32) (r : Fin 2048) (f : Fin 256) : EReal :=
  ∑ a : Fin 1024, x (ix3 0 r a) * w (ix3 0 a f)

/-- One tile's part of the down projection of the gated hidden vector. -/
abbrev part (x : FVec Ideal S1x2048x1024 .bf16) (wg wu : FVec Ideal S1x1024x256 .f32) (wd : FVec Ideal S1x256x1024 .f32)
    (j : S2048x1024.Idx) : EReal :=
  ∑ f : Fin 256, proj x wg (j 0) f * Ideal.div 1 (1 + Ideal.exp (-proj x wg (j 0) f)) * proj x wu (j 0) f
    * wd (ix3 0 f (j 1))

/-- A point adds its tile's part to the accumulator. -/
theorem add_part (x : FVec Ideal S1x2048x1024 .bf16) (wg wu : FVec Ideal S1x1024x256 .f32) (acc : FVec Ideal S2048x1024 .f32)
    (wd : FVec Ideal S1x256x1024 .f32) (j : S2048x1024.Idx) :
    k0_pay3 (F := Ideal) x wg wu acc wd j = acc j + part x wg wu wd j := by
  pointwise [k0_pay3]
  simp only [zero_sub]

/-- The last point of an expert stores the accumulator times the token's gate. -/
theorem gate_acc (acc : FVec Ideal S2048x1024 .f32) (g : FVec Ideal S1x2048x1 .f32) (j : S1x2048x1024.Idx) :
    k0_pay1 (F := Ideal) acc g j = acc (ix2 (j 1) (j 2)) * g (ix3 0 (j 1) 0) := by
  pointwise [k0_pay1]

/-! ## The accumulator at the last point of an expert -/

/-- Where each window's block lies at a grid point: the expert `t / 11` and the tile `t % 11`. -/
theorem idx : ∀ t : Fin cfg0.N, win0_0.index t = ![t.val / 11, 0, 0] ∧ win0_1.index t = ![t.val / 11, 0, 0]
    ∧ win0_2.index t = ![t.val / 11, 0, t.val % 11] ∧ win0_3.index t = ![t.val / 11, 0, t.val % 11]
    ∧ win0_4.index t = ![t.val / 11, t.val % 11, 0] ∧ win0_5.index t = ![t.val / 11, 0, 0] ∧ t.val / 11 < 16 :=
  (by decide +kernel : ∀ t : Fin grid0.N, _)

/-- At the last point of an expert the accumulator is the sum of its eleven tiles' parts. -/
theorem acc_last (c : Dev nD) (t : Fin cfg0.N) (ht : t.val % 11 = 10) (j : S2048x1024.Idx) :
    (outsAt0 m c t.val t.isLt).2 j = ∑ s : Fin 11,
      part (iblk m c 0 ⟨11 * (t.val / 11) + s.val, Pipeline.run_point_lt_of_flush t ht s⟩)
        (iblk m c 2 ⟨11 * (t.val / 11) + s.val, Pipeline.run_point_lt_of_flush t ht s⟩)
        (iblk m c 3 ⟨11 * (t.val / 11) + s.val, Pipeline.run_point_lt_of_flush t ht s⟩)
        (iblk m c 4 ⟨11 * (t.val / 11) + s.val, Pipeline.run_point_lt_of_flush t ht s⟩) j := by
  rw [Pipeline.eq_sum_fin_of_reset_step_apply_of_flush (fun n h => (outsAt0 m c n h).2) 11 (fun _ => 0)
    (fun t j => part (iblk m c 0 t) (iblk m c 2 t) (iblk m c 3 t) (iblk m c 4 t) j)
    (fun t h j => by
      rw [outsAt0_A m c t h (by omega)]; frame_out; rw [add_part, zero_fill])
    (fun t h j => by
      by_cases h1 : t.val % 11 = 10
      · rw [outsAt0_C m c t h h1]; frame_out
        exact (add_part _ _ _ _ _ j).trans (congrArg (· + _) (congrFun (Memref.IsWhole.read_unread _ _) j))
      · rw [outsAt0_B m c t h h1]; frame_out
        exact (add_part _ _ _ _ _ j).trans (congrArg (· + _) (congrFun (Memref.IsWhole.read_unread _ _) j)))
    t ht j, zero_add]

/-- At the last point of an expert the stored block is the gated accumulator. -/
theorem out_last (c : Dev nD) (t : Fin cfg0.N) (ht : t.val % 11 = 10) (j : S1x2048x1024.Idx) :
    (outsAt0 m c t.val t.isLt).1 j = (outsAt0 m c t.val t.isLt).2 (ix2 (j 1) (j 2)) * (iblk m c 1 t) (ix3 0 (j 1) 0) := by
  rw [outsAt0_C m c t (by omega) ht]; frame_out
  exact gate_acc _ _ j

/-! ## The reference -/

/-- The reference's result from the five arguments. -/
abbrev ref (X : FVec Ideal S16x2048x1024 .bf16) (G : FVec Ideal S16x2048x1 .f32) (Wg Wu : FVec Ideal S1x16x1024x2816 .f32)
    (Wd : FVec Ideal S1x16x2816x1024 .f32) : FVec Ideal S16x2048x1024 .bf16 :=
  truncf .bf16 (mulf (Host.dotGeneral Cert.Reference2Ideal.dot_S16x2048x2816_S16x2816x1024_S16x2048x1024_2_1_1_2_0_0 none (mulf (mulf (Host.dotGeneral Cert.Reference2Ideal.dot_S16x2048x1024_S16x1024x2816_S16x2048x2816_2_1_1_2_0_0 none (extf .f32 X Cert.Reference2Ideal.Gen.bitsLt_bf16_f32) (shapeCast _ Wg Cert.Reference2Ideal.Gen.shapeCasts_S1x16x1024x2816_S16x1024x2816)) (Host.divf (broadcastInDim Cert.Reference2Ideal.S16x2048x2816 ![] Cert.Reference2Ideal.Gen.bcast_S_S16x2048x2816 (constant Cert.Reference2Ideal.S_ .f32 0x3F800000#32)) (addf (broadcastInDim Cert.Reference2Ideal.S16x2048x2816 ![] Cert.Reference2Ideal.Gen.bcast_S_S16x2048x2816 (constant Cert.Reference2Ideal.S_ .f32 0x3F800000#32)) (Host.exp (Host.negf (Host.dotGeneral Cert.Reference2Ideal.dot_S16x2048x1024_S16x1024x2816_S16x2048x2816_2_1_1_2_0_0 none (extf .f32 X Cert.Reference2Ideal.Gen.bitsLt_bf16_f32) (shapeCast _ Wg Cert.Reference2Ideal.Gen.shapeCasts_S1x16x1024x2816_S16x1024x2816))))))) (Host.dotGeneral Cert.Reference2Ideal.dot_S16x2048x1024_S16x1024x2816_S16x2048x2816_2_1_1_2_0_0 none (extf .f32 X Cert.Reference2Ideal.Gen.bitsLt_bf16_f32) (shapeCast _ Wu Cert.Reference2Ideal.Gen.shapeCasts_S1x16x1024x2816_S16x1024x2816))) (shapeCast _ Wd Cert.Reference2Ideal.Gen.shapeCasts_S1x16x2816x1024_S16x2816x1024)) (broadcastInDim Cert.Reference2Ideal.S16x2048x1024 ![0, 1, 2] Cert.Reference2Ideal.Gen.bcast_S16x2048x1_S16x2048x1024_0_1_2 G)) Cert.Reference2Ideal.Gen.bitsLt_bf16_f32

/-- The reference at one entry. -/
theorem ref_at (X : FVec Ideal S16x2048x1024 .bf16) (G : FVec Ideal S16x2048x1 .f32) (Wg Wu : FVec Ideal S1x16x1024x2816 .f32)
    (Wd : FVec Ideal S1x16x2816x1024 .f32) (e : Fin 16) (r : Fin 2048) (d : Fin 1024) :
    ref X G Wg Wu Wd (ix3 e r d) = (∑ f : Fin 2816, (∑ a : Fin 1024, X (ix3 e r a) * Wg (ix4 0 e a f))
        * Ideal.div 1 (1 + Ideal.exp (-∑ a : Fin 1024, X (ix3 e r a) * Wg (ix4 0 e a f)))
        * (∑ a : Fin 1024, X (ix3 e r a) * Wu (ix4 0 e a f)) * Wd (ix4 0 e f d)) * G (ix3 e r 0) := by
  pointwise [ref]

/-! ## The equation -/

/-- The kernel's result array is the reference's. -/
theorem final (c : Dev nD) : (dats m 0 c).arrAt 5 cfg0.N
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  have ht := (flush0_5 t).mp hf
  rw [after0_5, out_last m c t ht, acc_last m c t ht]
  pointwise [ref, part, proj]
  refine congrArg₂ (· * ·) (Fin.sum_mul_add_congr fun s k hl => ?_) ?_
  · have hs := idx ⟨_, Pipeline.run_point_lt_of_flush t ht s⟩
    blk_point [iblk, V, idx t, hs]

  · blk_point [iblk, V, idx t]

end Cert.Kernel2Ideal.RefValue
end
-- ==== Proof.InProj.Spec.lean ====
/- The in-projection's reference, written as a few named functions of its arguments, and the reference program's results as
   these functions. -/
module

public import proofs.«01_k».proof.Proof.Gen.Reference3Ideal.Run
public import Idealize.ShloMosaic.Lib.Pointwise

@[expose] public section

set_option maxRecDepth 16384

noncomputable section

namespace Cert.Reference3Ideal.Spec

open Cert.Reference3Ideal Cert.Reference3Ideal.Gen Idealize.ShloMosaic Idealize.ShloMosaic.TcCoe Idealize.SL.Sem Idealize.ShloMosaic.StableHlo

/-- The input under its root mean square, times the norm's weight, times one plus the scale, plus the shift. -/
def modulated (x : FVec Ideal S4x4096x1024 .f32) (nw : FVec Ideal S1x1024 .f32) (sh sc : FVec Ideal S4x1x1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 (shapeCast _ nw shapeCasts_S1x1024_S1024))))
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

/-- All the projection's columns. -/
def projected (h : FVec Ideal S4x4096x1024 .f32) (w : FVec Ideal S1x1024x4112 .f32) : FVec Ideal S4x4096x4112 .f32 :=
  Host.dotGeneral dot_S4x4096x1024_S1024x4112_S4x4096x4112_2_0_01_1_n_n none h (shapeCast _ w shapeCasts_S1x1024x4112_S1024x4112)

/-- The rotary frequencies. -/
def freqs : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The positions' angles along one axis of the grid, from that axis's coordinate of each token. -/
def angles (p : FVec Ideal S4096 .f32) : FVec Ideal S4096x32 .f32 :=
  mulf (broadcastInDim S4096x32 ![0, 1] bcast_S4096x1_S4096x32_0_1 (broadcastInDim S4096x1 ![0] bcast_S4096_S4096x1_0 p)) (broadcastInDim S4096x32 ![0, 1] bcast_S1x32_S4096x32_0_1 (broadcastInDim S1x32 ![1] bcast_S32_S1x32_1 freqs))

/-- The angles of the tokens' rows. -/
def rowAngles : FVec Ideal S4096x32 .f32 :=
  angles (shapeCast _ (broadcastInDim S64x64 ![0] bcast_S64_S64x64_0 (sitofp .f32 (iotaInDim S64 32 0))) shapeCasts_S64x64_S4096)

/-- The angles of the tokens' columns. -/
def colAngles : FVec Ideal S4096x32 .f32 :=
  angles (shapeCast _ (broadcastInDim S64x64 ![0, 1] bcast_S1x64_S64x64_0_1 (shapeCast _ (sitofp .f32 (iotaInDim S64 32 0)) shapeCasts_S64_S1x64)) shapeCasts_S64x64_S4096)

/-- A table of one value per token and frequency, over the samples and the heads. -/
def spread (a : FVec Ideal S4096x32 .f32) : FVec Ideal S4x4096x4x32 .f32 :=
  broadcastInDim S4x4096x4x32 ![0, 1, 2, 3] bcast_S1x4096x1x32_S4x4096x4x32_0_1_2_3 (broadcastInDim S1x4096x1x32 ![1, 2, 3] bcast_S4096x1x32_S1x4096x1x32_1_2_3 (broadcastInDim S4096x1x32 ![0, 2] bcast_S4096x32_S4096x1x32_0_2 a))

/-- The two halves of a head's half, turned through the angle `a`. -/
def turned (t : FVec Ideal S4x4096x4x64 .f32) (a : FVec Ideal S4096x32 .f32) : FVec Ideal S4x4096x4x64 .f32 :=
  concatenate S4x4096x4x64 3
    [⟨S4x4096x4x32, (subf (mulf (extractStridedSlice S4x4096x4x32 ![0, 0, 0, 0] t slices_S4x4096x4x64_S4x4096x4x32_0_0_0_0) (spread (Host.cos a))) (mulf (extractStridedSlice S4x4096x4x32 ![0, 0, 0, 32] t slices_S4x4096x4x64_S4x4096x4x32_0_0_0_32) (spread (Host.sin a))) : FVec Ideal S4x4096x4x32 .f32)⟩,
     ⟨S4x4096x4x32, (addf (mulf (extractStridedSlice S4x4096x4x32 ![0, 0, 0, 0] t slices_S4x4096x4x64_S4x4096x4x32_0_0_0_0) (spread (Host.sin a))) (mulf (extractStridedSlice S4x4096x4x32 ![0, 0, 0, 32] t slices_S4x4096x4x64_S4x4096x4x32_0_0_0_32) (spread (Host.cos a))) : FVec Ideal S4x4096x4x32 .f32)⟩]
    concatenates_S4x4096x4x32_S4x4096x4x32_S4x4096x4x64_d3

/-- The rotary positions on every head: its first half turned by the token's row, its second by the token's column. -/
def rotary (t : FVec Ideal S4x4096x4x128 .f32) : FVec Ideal S4x4096x4x128 .f32 :=
  concatenate S4x4096x4x128 3
    [⟨S4x4096x4x64, turned (extractStridedSlice S4x4096x4x64 ![0, 0, 0, 0] t slices_S4x4096x4x128_S4x4096x4x64_0_0_0_0) rowAngles⟩,
     ⟨S4x4096x4x64, turned (extractStridedSlice S4x4096x4x64 ![0, 0, 0, 64] t slices_S4x4096x4x128_S4x4096x4x64_0_0_0_64) colAngles⟩]
    concatenates_S4x4096x4x64_S4x4096x4x64_S4x4096x4x128_d3

/-- The mLSTM's q, k, v and o, from the projected columns: k scaled. -/
def mlstmPart (p : FVec Ideal S4x4096x4112 .f32) : FVec Ideal S4x4096x2048 .bf16 :=
  truncf .bf16 (concatenate S4x4096x2048 2
    [⟨S4x4096x512, (extractStridedSlice S4x4096x512 ![0, 0, 0] p slices_S4x4096x4112_S4x4096x512_0_0_0 : FVec Ideal S4x4096x512 .f32)⟩,
     ⟨S4x4096x512, (mulf (extractStridedSlice S4x4096x512 ![0, 0, 512] p slices_S4x4096x4112_S4x4096x512_0_0_512) (broadcastInDim S4x4096x512 ![] bcast_S_S4x4096x512 (constant S_ .f32 0x3DB504F3#32)) : FVec Ideal S4x4096x512 .f32)⟩,
     ⟨S4x4096x512, (extractStridedSlice S4x4096x512 ![0, 0, 1024] p slices_S4x4096x4112_S4x4096x512_0_0_1024 : FVec Ideal S4x4096x512 .f32)⟩,
     ⟨S4x4096x512, (extractStridedSlice S4x4096x512 ![0, 0, 1536] p slices_S4x4096x4112_S4x4096x512_0_0_1536 : FVec Ideal S4x4096x512 .f32)⟩]
    concatenates_S4x4096x512_S4x4096x512_S4x4096x512_S4x4096x512_S4x4096x2048_d2) bitsLt_bf16_f32

/-- The mLSTM's gates, from the projected columns: the bias added, zeros up to 128 lanes. -/
def gatePart (p : FVec Ideal S4x4096x4112 .f32) (gb : FVec Ideal S1x16 .f32) : FVec Ideal S4x4096x128 .f32 :=
  pad S4x4096x128 ![0, 0, 0] ![0, 0, 112] ![0, 0, 0] (addf (extractStridedSlice S4x4096x16 ![0, 0, 2048] p slices_S4x4096x4112_S4x4096x16_0_0_2048) (broadcastInDim S4x4096x16 ![0, 1, 2] bcast_S1x1x16_S4x4096x16_0_1_2 (broadcastInDim S1x1x16 ![2] bcast_S16_S1x1x16_2 (shapeCast _ gb shapeCasts_S1x16_S16)))) (sitofp .f32 (constantI S_ 32 0#32)) pads_S4x4096x16_S4x4096x128_000_000_01120 h_S_

/-- The retention's q, k, v and o, from the projected columns: k scaled, the rotary positions on q and k. -/
def retentionPart (p : FVec Ideal S4x4096x4112 .f32) : FVec Ideal S4x4096x2048 .bf16 :=
  truncf .bf16 (concatenate S4x4096x2048 2
    [⟨S4x4096x512, (shapeCast _ (rotary (shapeCast _ (extractStridedSlice S4x4096x512 ![0, 0, 2064] p slices_S4x4096x4112_S4x4096x512_0_0_2064) shapeCasts_S4x4096x512_S4x4096x4x128)) shapeCasts_S4x4096x4x128_S4x4096x512 : FVec Ideal S4x4096x512 .f32)⟩,
     ⟨S4x4096x512, (shapeCast _ (rotary (mulf (shapeCast _ (extractStridedSlice S4x4096x512 ![0, 0, 2576] p slices_S4x4096x4112_S4x4096x512_0_0_2576) shapeCasts_S4x4096x512_S4x4096x4x128) (broadcastInDim S4x4096x4x128 ![] bcast_S_S4x4096x4x128 (constant S_ .f32 0x3DB504F3#32)))) shapeCasts_S4x4096x4x128_S4x4096x512 : FVec Ideal S4x4096x512 .f32)⟩,
     ⟨S4x4096x512, (extractStridedSlice S4x4096x512 ![0, 0, 3088] p slices_S4x4096x4112_S4x4096x512_0_0_3088 : FVec Ideal S4x4096x512 .f32)⟩,
     ⟨S4x4096x512, (extractStridedSlice S4x4096x512 ![0, 0, 3600] p slices_S4x4096x4112_S4x4096x512_0_0_3600 : FVec Ideal S4x4096x512 .f32)⟩]
    concatenates_S4x4096x512_S4x4096x512_S4x4096x512_S4x4096x512_S4x4096x2048_d2) bitsLt_bf16_f32

variable (m : (ℓ : Loc nD τ sig) → Buf (Elt Ideal) ℓ)

/-- The projected columns of the program's arguments. -/
def columns (c : Dev nD) : FVec Ideal S4x4096x4112 .f32 :=
  projected (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The first result is the mLSTM's part of the columns. -/
theorem res0 (c : Dev nD) : Value.res_out0 m c = mlstmPart (columns m c) := rfl

/-- The third result is the retention's part of the columns. -/
theorem res2 (c : Dev nD) : Value.res_out2 m c = retentionPart (columns m c) := rfl

end Cert.Reference3Ideal.Spec
-- ==== Proof.InProj.Blocks.lean ====
/- The in-projection kernel's blocks at a grid point, and the modulated tokens it computes there. -/
module

public import proofs.«01_k».proof.Proof.Gen.Kernel3Ideal.Value
public import proofs.«01_k».proof.Proof.InProj.Spec
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen
open Cert.Reference3Ideal.Spec (modulated projected)

/-! ## The host's cuts of the weight and the bias, entry by entry -/

/-- The weight without its leading unit axis. -/
theorem flat_at (w : FVec Ideal S1x1024x4112 .f32) (k : Fin 1024) (n : Fin 4112) :
    shapeCast S1024x4112 w shapeCasts_S1x1024x4112_S1024x4112 (ix2 k n) = w (ix3 0 k n) := by
  pointwise

/-- The first 2048 columns. -/
theorem cut_mlstm (w : FVec Ideal S1024x4112 .f32) (k : Fin 1024) (n : Fin 2048) :
    truncf (F := Ideal) .bf16 (extractStridedSlice S1024x2048 ![0, 0] w slices_S1024x4112_S1024x2048_0_0) bitsLt_bf16_f32 (ix2 k n)
      = w (ix2 k ⟨n.val, by omega⟩) := by
  pointwise

/-- The last 2048 columns. -/
theorem cut_ret (w : FVec Ideal S1024x4112 .f32) (k : Fin 1024) (n : Fin 2048) :
    truncf (F := Ideal) .bf16 (extractStridedSlice S1024x2048 ![0, 2064] w slices_S1024x4112_S1024x2048_0_2064) bitsLt_bf16_f32 (ix2 k n)
      = w (ix2 k ⟨2064 + n.val, by omega⟩) := by
  pointwise

/-- The sixteen columns between, padded with zeros. -/
theorem cut_gate (w : FVec Ideal S1024x4112 .f32) (k : Fin 1024) (n : Fin 128) :
    truncf (F := Ideal) .bf16 (pad S1024x128 ![0, 0] ![0, 112] ![0, 0] (extractStridedSlice S1024x16 ![0, 2048] w slices_S1024x4112_S1024x16_0_2048) (sitofp .f32 (constantI S_ 32 0#32)) pads_S1024x16_S1024x128_000_01120 h_S_) bitsLt_bf16_f32 (ix2 k n)
      = if h : n.val < 16 then w (ix2 k ⟨2048 + n.val, by omega⟩) else (FloatOps.sitofp FTy.f32 0#32 : Ideal .f32) := by
  pointwise

/-- The bias, padded with zeros. -/
theorem pad_bias (b : FVec Ideal S1x16 .f32) (n : Fin 128) :
    shapeCast S1x128 (pad S128 ![0] ![112] ![0] (shapeCast S16 b shapeCasts_S1x16_S16) (sitofp (F := Ideal) .f32 (constantI S_ 32 0#32)) pads_S16_S128_01120 h_S_) shapeCasts_S128_S1x128 (ix2 0 n)
      = if h : n.val < 16 then b (ix2 0 ⟨n.val, h⟩) else (FloatOps.sitofp FTy.f32 0#32 : Ideal .f32) := by
  pointwise

/-- The zero the host pads with. -/
theorem zero_word : (FloatOps.sitofp FTy.f32 0#32 : Ideal .f32) = (0 : EReal) := by
  simp [FloatOps.sitofp]

variable (m : (ℓ : Loc nD τ sig) → Buf (Elt Ideal) ℓ)

/-- Where each window's block lies at a grid point: the sample `t / 8` and the stretch of tokens `t % 8`. -/
theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![0, 0]
    ∧ win0_5.index t = ![0, 0] ∧ win0_6.index t = ![0, 0] ∧ win0_7.index t = ![0, 0] ∧ win0_8.index t = ![t.val % 8, 0]
    ∧ win0_9.index t = ![t.val % 8, 0] ∧ win0_10.index t = ![t.val / 8, t.val % 8, 0]
    ∧ win0_11.index t = ![t.val / 8, t.val % 8, 0] ∧ win0_12.index t = ![t.val / 8, t.val % 8, 0] ∧ t.val / 8 < 4 :=
  (by decide +kernel : ∀ t : Fin grid0.N, _)

/-- The modulated tokens of the program's arguments. -/
abbrev hidden (c : Dev nD) : FVec Ideal S4x4096x1024 .f32 :=
  modulated (m ((c : Thread nD τ).loc main_arg0)) (m ((c : Thread nD τ).loc main_arg1)) (m ((c : Thread nD τ).loc main_arg2))
    (m ((c : Thread nD τ).loc main_arg3))

/-- The norm's weight, as the host lays it out. -/
theorem V_norm (c : Dev nD) : V m c main_v12
    = shapeCast S1x1024 (shapeCast S1024 (m ((c : Thread nD τ).loc main_arg1)) shapeCasts_S1x1024_S1024) shapeCasts_S1024_S1x1024 := by
  unfold V
  simp only [hostOps0, hostOps0_1, hostOps0_2, hostOps0_3, hostOps0_4, List.flatten_cons, List.flatten_nil, List.append_nil,
    List.cons_append, List.nil_append]
  after_results; try rfl

/-- The mLSTM's columns of the projection weight, as the host cuts them. -/
theorem V_mlstm (c : Dev nD) : V m c main_v2
    = truncf (F := Ideal) .bf16 (extractStridedSlice S1024x2048 ![0, 0] (shapeCast S1024x4112 (m ((c : Thread nD τ).loc main_arg4)) shapeCasts_S1x1024x4112_S1024x4112) slices_S1024x4112_S1024x2048_0_0) bitsLt_bf16_f32 := by
  unfold V
  simp only [hostOps0, hostOps0_1, hostOps0_2, hostOps0_3, hostOps0_4, List.flatten_cons, List.flatten_nil, List.append_nil,
    List.cons_append, List.nil_append]
  after_results; try rfl

/-- The gates' columns of the projection weight, as the host cuts and pads them. -/
theorem V_gate (c : Dev nD) : V m c main_v5
    = truncf (F := Ideal) .bf16 (pad S1024x128 ![0, 0] ![0, 112] ![0, 0] (extractStridedSlice S1024x16 ![0, 2048] (shapeCast S1024x4112 (m ((c : Thread nD τ).loc main_arg4)) shapeCasts_S1x1024x4112_S1024x4112) slices_S1024x4112_S1024x16_0_2048) (sitofp .f32 (constantI S_ 32 0#32)) pads_S1024x16_S1024x128_000_01120 h_S_) bitsLt_bf16_f32 := by
  unfold V
  simp only [hostOps0, hostOps0_1, hostOps0_2, hostOps0_3, hostOps0_4, List.flatten_cons, List.flatten_nil, List.append_nil,
    List.cons_append, List.nil_append]
  after_results; try rfl

/-- The retention's columns of the projection weight, as the host cuts them. -/
theorem V_ret (c : Dev nD) : V m c main_v7
    = truncf (F := Ideal) .bf16 (extractStridedSlice S1024x2048 ![0, 2064] (shapeCast S1024x4112 (m ((c : Thread nD τ).loc main_arg4)) shapeCasts_S1x1024x4112_S1024x4112) slices_S1024x4112_S1024x2048_0_2064) bitsLt_bf16_f32 := by
  unfold V
  simp only [hostOps0, hostOps0_1, hostOps0_2, hostOps0_3, hostOps0_4, List.flatten_cons, List.flatten_nil, List.append_nil,
    List.cons_append, List.nil_append]
  after_results; try rfl

/-- The gates' bias, as the host pads it. -/
theorem V_bias (c : Dev nD) : V m c main_v10
    = shapeCast S1x128 (pad S128 ![0] ![112] ![0] (shapeCast S16 (m ((c : Thread nD τ).loc main_arg5)) shapeCasts_S1x16_S16) (sitofp (F := Ideal) .f32 (constantI S_ 32 0#32)) pads_S16_S128_01120 h_S_) shapeCasts_S128_S1x128 := by
  unfold V
  simp only [hostOps0, hostOps0_1, hostOps0_2, hostOps0_3, hostOps0_4, List.flatten_cons, List.flatten_nil, List.append_nil,
    List.cons_append, List.nil_append]
  after_results; try rfl

/-- Windows whose block is their whole array read it index by index. -/
theorem emb1 (t : Fin cfg0.N) (y : S1x1024.Idx) : (win0_1.blk t).view.emb y = y := by blk_ext [idx t]
/-- The same, of the mLSTM's columns. -/
theorem emb4 (t : Fin cfg0.N) (y : S1024x2048.Idx) : (win0_4.blk t).view.emb y = y := by blk_ext [idx t]
/-- The same, of the gates' columns. -/
theorem emb5 (t : Fin cfg0.N) (y : S1024x128.Idx) : (win0_5.blk t).view.emb y = y := by blk_ext [idx t]
/-- The same, of the retention's columns. -/
theorem emb6 (t : Fin cfg0.N) (y : S1024x2048.Idx) : (win0_6.blk t).view.emb y = y := by blk_ext [idx t]
/-- The same, of the gates' bias. -/
theorem emb7 (t : Fin cfg0.N) (y : S1x128.Idx) : (win0_7.blk t).view.emb y = y := by blk_ext [idx t]

/-- The norm's weight at a point, entry by entry. -/
theorem norm_at (c : Dev nD) (t : Fin cfg0.N) (d : Fin 1024) :
    (show FVec Ideal S1x1024 .f32 from iblk m c 1 t) (ix2 0 d) = m ((c : Thread nD τ).loc main_arg1) (ix2 0 d) := by
  show V m c main_v12 ((win0_1.blk t).view.emb (ix2 0 d)) = _
  rw [emb1, V_norm]
  pointwise

/-- The mLSTM's block of the projection weight, entry by entry. -/
theorem mlstm_at (c : Dev nD) (t : Fin cfg0.N) (k : Fin 1024) (n : Fin 2048) :
    (show FVec Ideal S1024x2048 .bf16 from iblk m c 4 t) (ix2 k n) = m ((c : Thread nD τ).loc main_arg4) (ix3 0 k ⟨n.val, by omega⟩) := by
  show V m c main_v2 ((win0_4.blk t).view.emb (ix2 k n)) = _
  rw [emb4, V_mlstm]
  exact (cut_mlstm _ k n).trans (flat_at _ k _)

/-- The retention's block of the projection weight, entry by entry. -/
theorem ret_at (c : Dev nD) (t : Fin cfg0.N) (k : Fin 1024) (n : Fin 2048) :
    (show FVec Ideal S1024x2048 .bf16 from iblk m c 6 t) (ix2 k n) = m ((c : Thread nD τ).loc main_arg4) (ix3 0 k ⟨2064 + n.val, by omega⟩) := by
  show V m c main_v7 ((win0_6.blk t).view.emb (ix2 k n)) = _
  rw [emb6, V_ret]
  exact (cut_ret _ k n).trans (flat_at _ k _)

/-- The gates' block of the projection weight, entry by entry. -/
theorem gate_at (c : Dev nD) (t : Fin cfg0.N) (k : Fin 1024) (n : Fin 128) :
    (show FVec Ideal S1024x128 .bf16 from iblk m c 5 t) (ix2 k n)
      = if h : n.val < 16 then (show FVec Ideal S1x1024x4112 .f32 from m ((c : Thread nD τ).loc main_arg4)) (ix3 0 k ⟨2048 + n.val, by omega⟩) else (0 : EReal) := by
  show V m c main_v5 ((win0_5.blk t).view.emb (ix2 k n)) = _
  rw [emb5, V_gate]
  refine (cut_gate _ k n).trans ?_
  split
  · exact flat_at _ k _
  · exact zero_word

/-- The gates' bias at a point, entry by entry. -/
theorem bias_at (c : Dev nD) (t : Fin cfg0.N) (n : Fin 128) :
    (show FVec Ideal S1x128 .f32 from iblk m c 7 t) (ix2 0 n)
      = if h : n.val < 16 then (show FVec Ideal S1x16 .f32 from m ((c : Thread nD τ).loc main_arg5)) (ix2 0 ⟨n.val, h⟩) else (0 : EReal) := by
  show V m c main_v10 ((win0_7.blk t).view.emb (ix2 0 n)) = _
  rw [emb7, V_bias]
  refine (pad_bias _ n).trans ?_
  split
  · rfl
  · exact zero_word

/-- The tokens a point modulates are the modulated tokens of its sample and stretch. -/
theorem hidden_at (c : Dev nD) (t : Fin cfg0.N) (i : S512x1024.Idx) (j : S4x4096x1024.Idx)
    (hj0 : (j 0 : ℕ) = t.val / 8) (hj1 : (j 1 : ℕ) = t.val % 8 * 512 + i 0) (hj2 : (j 2 : ℕ) = i 1) :
    k0_pay3 (F := Ideal) (iblk m c 0 t) (iblk m c 1 t) (iblk m c 2 t) (iblk m c 3 t) i = hidden m c j := by
  have hn : (show FVec Ideal S1x1024 .f32 from iblk m c 1 t) (ix2 0 (i 1)) = m ((c : Thread nD τ).loc main_arg1) (ix2 0 (j 2)) :=
    (norm_at m c t (i 1)).trans (by rw [show j 2 = i 1 from Fin.ext hj2])
  pointwise [k0_pay3, hidden, modulated]
  blk_point [iblk, V, idx t]
  exact hn

end Cert.Kernel3Ideal.RefValue
end
-- ==== Proof.InProj.Tables.lean ====
/- The rotary tables the host computes for the in-projection kernel, entry by entry. -/
module

public import proofs.«01_k».proof.Proof.InProj.Blocks

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen
open Cert.Reference3Ideal.Spec (rowAngles colAngles)

/-- One head's table over the four quarters of its lanes, repeated for the four heads. -/
abbrev table (a b d e : FVec Ideal S4096x32 .f32) : FVec Ideal S4096x512 .f32 :=
  shapeCast S4096x512 (broadcastInDim S1x4096x4x128 ![0, 1, 2, 3] bcast_S1x4096x1x128_S1x4096x4x128_0_1_2_3
    (shapeCast S1x4096x1x128 (concatenate S4096x128 1 [⟨S4096x32, (a : FVec Ideal S4096x32 .f32)⟩, ⟨S4096x32, (b : FVec Ideal S4096x32 .f32)⟩, ⟨S4096x32, (d : FVec Ideal S4096x32 .f32)⟩, ⟨S4096x32, (e : FVec Ideal S4096x32 .f32)⟩]
      concatenates_S4096x32_S4096x32_S4096x32_S4096x32_S4096x128_d1) shapeCasts_S4096x128_S1x4096x1x128)) shapeCasts_S1x4096x4x128_S4096x512

/-- The table read at a token and a lane. -/
theorem table_at (a b d e : FVec Ideal S4096x32 .f32) (s : Fin 4096) (n : Fin 512) :
    table a b d e (ix2 s n)
      = if n.val % 128 / 32 = 0 then a (ix2 s ⟨n.val % 32, by omega⟩) else if n.val % 128 / 32 = 1 then b (ix2 s ⟨n.val % 32, by omega⟩)
        else if n.val % 128 / 32 = 2 then d (ix2 s ⟨n.val % 32, by omega⟩) else e (ix2 s ⟨n.val % 32, by omega⟩) := by
  pointwise [table]
  blk_point [] <;> (exfalso; omega)

variable (m : (ℓ : Loc nD τ sig) → Buf (Elt Ideal) ℓ)

/-- The cosines. -/
theorem V_cos (c : Dev nD) : V m c main_v48
    = table (Host.cos rowAngles) (Host.cos rowAngles) (Host.cos colAngles) (Host.cos colAngles) := by
  unfold V
  simp only [hostOps0, hostOps0_1, hostOps0_2, hostOps0_3, hostOps0_4, List.flatten_cons, List.flatten_nil, List.append_nil,
    List.cons_append, List.nil_append]
  after_results; try rfl

/-- The sines, those of the lower quarters negated. -/
theorem V_sin (c : Dev nD) : V m c main_v51
    = table (Host.negf (Host.sin rowAngles)) (Host.sin rowAngles) (Host.negf (Host.sin colAngles)) (Host.sin colAngles) := by
  unfold V
  simp only [hostOps0, hostOps0_1, hostOps0_2, hostOps0_3, hostOps0_4, List.flatten_cons, List.flatten_nil, List.append_nil,
    List.cons_append, List.nil_append]
  after_results; try rfl

end Cert.Kernel3Ideal.RefValue
end
-- ==== Proof.InProj.Reads.lean ====
/- The in-projection's reference, entry by entry. -/
module

public import proofs.«01_k».proof.Proof.InProj.Spec
public import Idealize.ShloMosaic.Lib.Pointwise
public import Idealize.ShloMosaic.Lib.Pipeline.ValueKit
public import Idealize.ShloMosaic.Lib.Claim

@[expose] public section

set_option maxRecDepth 16384

noncomputable section

namespace Cert.Reference3Ideal.Spec

open Cert.Reference3Ideal Cert.Reference3Ideal.Gen Idealize.ShloMosaic Idealize.ShloMosaic.TcCoe Idealize.SL.Sem Idealize.ShloMosaic.StableHlo

/-- The number the keys are scaled by. -/
abbrev keyScale : EReal := (FloatOps.ofBits (F := Ideal) .f32 0x3DB504F3#32 : Ideal .f32)

/-- One projected entry. -/
theorem projected_at (h : FVec Ideal S4x4096x1024 .f32) (w : FVec Ideal S1x1024x4112 .f32) (b : Fin 4) (s : Fin 4096) (n : Fin 4112) :
    projected h w (ix3 b s n) = ∑ k : Fin 1024, h (ix3 b s k) * w (ix3 0 k n) := by
  pointwise [projected]

/-- The mLSTM's part: the projected column, the keys' scaled. -/
theorem mlstm_part_at (p : FVec Ideal S4x4096x4112 .f32) (b : Fin 4) (s : Fin 4096) (n : Fin 2048) :
    mlstmPart p (ix3 b s n) = if n.val / 512 = 1 then p (ix3 b s ⟨n.val, by omega⟩) * keyScale else p (ix3 b s ⟨n.val, by omega⟩) := by
  pointwise [mlstmPart]
  blk_point [] <;> (exfalso; omega)

/-- The gates' part: the projected column with its bias, then zeros. -/
theorem gate_part_at (p : FVec Ideal S4x4096x4112 .f32) (gb : FVec Ideal S1x16 .f32) (b : Fin 4) (s : Fin 4096) (n : Fin 128) :
    gatePart p gb (ix3 b s n) = if h : n.val < 16 then p (ix3 b s ⟨2048 + n.val, by omega⟩) + gb (ix2 0 ⟨n.val, h⟩) else (0 : EReal) := by
  pointwise [gatePart]
  split
  · rfl
  · simp [FloatOps.sitofp]

/-- The angle of a token at a lane of the four heads. -/
def angleAt (s : Fin 4096) (n : Fin 512) : EReal :=
  if n.val % 128 < 64 then rowAngles (ix2 s ⟨n.val % 32, by omega⟩) else colAngles (ix2 s ⟨n.val % 32, by omega⟩)

/-- The rotary turn of a row of four heads. -/
abbrev spin (u : Fin 512 → EReal) (s : Fin 4096) (n : Fin 512) : EReal :=
  if n.val / 32 % 2 = 0 then u n * Ideal.cos (angleAt s n) - u ⟨(n.val + 32) % 512, by omega⟩ * Ideal.sin (angleAt s n)
  else u ⟨(n.val + 480) % 512, by omega⟩ * Ideal.sin (angleAt s n) + u n * Ideal.cos (angleAt s n)

/-- The turn of two halves, entry by entry. -/
theorem turned_at (t : FVec Ideal S4x4096x4x64 .f32) (a : FVec Ideal S4096x32 .f32) (b : Fin 4) (s : Fin 4096) (h : Fin 4) (l : Fin 64) :
    turned t a (ix4 b s h l) = if hl : l.val < 32 then
        t (ix4 b s h l) * Ideal.cos (a (ix2 s ⟨l.val, hl⟩)) - t (ix4 b s h ⟨32 + l.val, by omega⟩) * Ideal.sin (a (ix2 s ⟨l.val, hl⟩))
      else t (ix4 b s h ⟨l.val - 32, by omega⟩) * Ideal.sin (a (ix2 s ⟨l.val - 32, by omega⟩))
        + t (ix4 b s h l) * Ideal.cos (a (ix2 s ⟨l.val - 32, by omega⟩)) := by
  pointwise [turned, spread]
  blk_point []

/-- The rotary positions on a head, quarter by quarter. -/
theorem rotary_ladder (t : FVec Ideal S4x4096x4x128 .f32) (b : Fin 4) (s : Fin 4096) (h : Fin 4) (l : Fin 128) :
    rotary t (ix4 b s h l)
      = if h0 : l.val < 32 then t (ix4 b s h l) * Ideal.cos (rowAngles (ix2 s ⟨l.val, h0⟩))
          - t (ix4 b s h ⟨l.val + 32, by omega⟩) * Ideal.sin (rowAngles (ix2 s ⟨l.val, h0⟩))
        else if h1 : l.val < 64 then t (ix4 b s h ⟨l.val - 32, by omega⟩) * Ideal.sin (rowAngles (ix2 s ⟨l.val - 32, by omega⟩))
          + t (ix4 b s h l) * Ideal.cos (rowAngles (ix2 s ⟨l.val - 32, by omega⟩))
        else if h2 : l.val < 96 then t (ix4 b s h l) * Ideal.cos (colAngles (ix2 s ⟨l.val - 64, by omega⟩))
          - t (ix4 b s h ⟨l.val + 32, by omega⟩) * Ideal.sin (colAngles (ix2 s ⟨l.val - 64, by omega⟩))
        else t (ix4 b s h ⟨l.val - 32, by omega⟩) * Ideal.sin (colAngles (ix2 s ⟨l.val - 96, by omega⟩))
          + t (ix4 b s h l) * Ideal.cos (colAngles (ix2 s ⟨l.val - 96, by omega⟩)) := by
  pointwise [rotary, turned_at]
  by_cases h0 : l.val < 64
  · rw [dif_pos h0]
    by_cases h1 : l.val < 32
    · rw [dif_pos h1, dif_pos h1]
      pointwise
      blk_point []
    · rw [dif_neg h1, dif_neg h1, dif_pos h0]
  · rw [dif_neg h0, dif_neg (show ¬ l.val < 32 by omega), dif_neg h0]
    by_cases h1 : l.val < 96
    · rw [dif_pos h1, dif_pos (show l.val - 64 < 32 by omega)]
      pointwise
      blk_point []
    · rw [dif_neg h1, dif_neg (show ¬ l.val - 64 < 32 by omega)]
      simp only [show l.val - 64 - 32 = l.val - 96 by omega]
      blk_point []

/-- The rotary positions on four heads lying side by side. -/
theorem rotary_at (t : FVec Ideal S4x4096x4x128 .f32) (u : Fin 512 → EReal) (b : Fin 4) (s : Fin 4096) (h : Fin 4) (l : Fin 128) (n : Fin 512)
    (hn : n.val = 128 * h.val + l.val)
    (hu : ∀ (h' : Fin 4) (l' : Fin 128) (k : Fin 512), k.val = 128 * h'.val + l'.val → t (ix4 b s h' l') = u k) :
    rotary t (ix4 b s h l) = spin u s n := by
  have up : ∀ hb, l.val / 32 % 2 = 0 → t (ix4 b s h ⟨l.val + 32, hb⟩) = u ⟨(n.val + 32) % 512, by omega⟩ :=
    fun hb he => hu h _ _ (show (n.val + 32) % 512 = 128 * h.val + (l.val + 32) by omega)
  have down : ∀ hb, ¬ l.val < 32 → t (ix4 b s h ⟨l.val - 32, hb⟩) = u ⟨(n.val + 480) % 512, by omega⟩ :=
    fun hb he => hu h _ _ (show (n.val + 480) % 512 = 128 * h.val + (l.val - 32) by omega)
  have row : ∀ (e : ℕ) (he : e < 32), e = n.val % 32 → l.val < 64 → rowAngles (ix2 s ⟨e, he⟩) = angleAt s n := by
    intro e he h1 h2
    subst h1
    unfold angleAt
    rw [if_pos (by omega)]
  have col : ∀ (e : ℕ) (he : e < 32), e = n.val % 32 → ¬ l.val < 64 → colAngles (ix2 s ⟨e, he⟩) = angleAt s n := by
    intro e he h1 h2
    subst h1
    unfold angleAt
    rw [if_neg (by omega)]
  unfold spin
  rw [rotary_ladder]
  by_cases h0 : l.val < 32
  · rw [dif_pos h0, if_pos (by omega), hu h l n hn, up _ (by omega), row _ _ (by omega) (by omega)]
  by_cases h1 : l.val < 64
  · rw [dif_neg h0, dif_pos h1, if_neg (by omega), hu h l n hn, down _ (by omega), row _ _ (by omega) (by omega)]
  by_cases h2 : l.val < 96
  · rw [dif_neg h0, dif_neg h1, dif_pos h2, if_pos (by omega), hu h l n hn, up _ (by omega), col _ _ (by omega) (by omega)]
  · rw [dif_neg h0, dif_neg h1, dif_neg h2, if_neg (by omega), hu h l n hn, down _ (by omega), col _ _ (by omega) (by omega)]

/-- The retention's part: q turned, k scaled and turned, v and o as projected. -/
theorem retention_part_at (p : FVec Ideal S4x4096x4112 .f32) (b : Fin 4) (s : Fin 4096) (n : Fin 2048) :
    retentionPart p (ix3 b s n)
      = if n.val < 512 then spin (fun k => p (ix3 b s ⟨2064 + k.val, by omega⟩)) s ⟨n.val % 512, by omega⟩
        else if n.val < 1024 then spin (fun k => p (ix3 b s ⟨2576 + k.val, by omega⟩) * keyScale) s ⟨n.val % 512, by omega⟩
        else p (ix3 b s ⟨2064 + n.val, by omega⟩) := by
  pointwise [retentionPart]
  by_cases h0 : n.val < 512
  · rw [dif_pos h0, if_pos h0]
    refine rotary_at _ _ b s _ _ _ (by simp; omega) fun h' l' k hk => ?_
    pointwise
    exact congrArg (fun i => p (ix3 b s i)) (Fin.ext (show 2064 + (h'.val * 128 + l'.val) = 2064 + k.val by omega))
  · by_cases h1 : n.val < 1024
    · rw [dif_neg h0, dif_pos (by omega), if_neg h0, if_pos h1]
      refine rotary_at _ _ b s _ _ _ (by simp; omega) fun h' l' k hk => ?_
      pointwise
      exact congrArg (fun i => p (ix3 b s i) * keyScale) (Fin.ext (show 2576 + (h'.val * 128 + l'.val) = 2576 + k.val by omega))
    · rw [dif_neg h0, dif_neg (by omega), if_neg h0, if_neg h1]
      split_ifs <;> first | (exfalso; omega) | blk_ext

end Cert.Reference3Ideal.Spec
end
-- ==== Proof.InProj.Payloads.lean ====
/- What the in-projection kernel's stores hold, entry by entry, for any tokens and weights. -/
module

public import proofs.«01_k».proof.Proof.Gen.Kernel3Ideal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

/-- One entry of tokens times a block of 512 columns. -/
abbrev prod (H : FVec Ideal S512x1024 .bf16) (W : FVec Ideal S1024x512 .bf16) (r n : Fin 512) : EReal :=
  ∑ k : Fin 1024, H (ix2 r k) * W (ix2 k n)

/-- The number the keys are scaled by. -/
abbrev keyScale : EReal := (FloatOps.ofBits (F := Ideal) .f32 0x3DB504F3#32 : Ideal .f32)

/-- A plain product with the first block of columns. -/
theorem pay4_at (x : Vec Ideal S1x512x1024 .f32) (a : Vec Ideal S1x1024 .f32) (b d : Vec Ideal S1x1x1024 .f32)
    (W : FVec Ideal S1024x512 .bf16) (j : S1x512x512.Idx) :
    k0_pay4 (F := Ideal) x a b d W j = prod (k0_pay3 (F := Ideal) x a b d) W (j 1) (j 2) := by
  pointwise [k0_pay4]

/-- The keys' block: a product, scaled. -/
theorem pay5_at (H : FVec Ideal S512x1024 .bf16) (W : FVec Ideal S1024x512 .bf16) (j : S1x512x512.Idx) :
    k0_pay5 (F := Ideal) H W j = prod H W (j 1) (j 2) * keyScale := by
  pointwise [k0_pay5]

/-- A plain product with a later block of columns. -/
theorem pay6_at (H : FVec Ideal S512x1024 .bf16) (W : FVec Ideal S1024x512 .bf16) (j : S1x512x512.Idx) :
    k0_pay6 (F := Ideal) H W j = prod H W (j 1) (j 2) := by
  pointwise [k0_pay6]

/-- A plain product with a later block of columns. -/
theorem pay7_at (H : FVec Ideal S512x1024 .bf16) (W : FVec Ideal S1024x512 .bf16) (j : S1x512x512.Idx) :
    k0_pay7 (F := Ideal) H W j = prod H W (j 1) (j 2) := by
  pointwise [k0_pay7]

/-- A plain product with a later block of columns. -/
theorem pay2_at (H : FVec Ideal S512x1024 .bf16) (W : FVec Ideal S1024x512 .bf16) (j : S1x512x512.Idx) :
    k0_pay2 (F := Ideal) H W j = prod H W (j 1) (j 2) := by
  pointwise [k0_pay2]

/-- A plain product with a later block of columns. -/
theorem pay1_at (H : FVec Ideal S512x1024 .bf16) (W : FVec Ideal S1024x512 .bf16) (j : S1x512x512.Idx) :
    k0_pay1 (F := Ideal) (k0_pay18 (F := Ideal) H W) j = prod H W (j 1) (j 2) := by
  pointwise [k0_pay1, k0_pay18]

/-- The mask of the lanes whose partner lies 32 lanes up. -/
abbrev lower : IVec S512x512 1 :=
  k0_pay15 (Scalar.select (Scalar.cmpi .eq 2#32 0#32) 1#32 2#32) k0_pay12 k0_pay13 k0_pay14

set_option maxHeartbeats 1000000 in
/-- The mask is set where the lane's quarter of 32 lanes is an even one. -/
theorem lower_at (r n : Fin 512) : lower (ix2 r n) = if n.val / 32 % 2 = 0 then 1#1 else 0#1 := by
  pointwise [lower, k0_pay15, k0_pay12, k0_pay13, k0_pay14]
  revert n
  decide +kernel

/-- The rotary turn of a row of products: each entry times its cosine, plus its partner's times its sine. -/
abbrev turn (p : Fin 512 → EReal) (C S : FVec Ideal S512x512 .f32) (r n : Fin 512) : EReal :=
  p n * C (ix2 r n) + (if n.val / 32 % 2 = 0 then p ⟨(n.val + 512 - 480) % 512, by omega⟩ else p ⟨(n.val + 512 - 32) % 512, by omega⟩) * S (ix2 r n)

/-- The queries' block: a row of products, turned. -/
theorem pay16_at (H : FVec Ideal S512x1024 .bf16) (C S : FVec Ideal S512x512 .f32) (W : FVec Ideal S1024x512 .bf16) (j : S1x512x512.Idx) :
    k0_pay16 (F := Ideal) H C S (Scalar.select (Scalar.cmpi .eq 2#32 0#32) 1#32 2#32) k0_pay12 k0_pay13 k0_pay14 W j
      = turn (fun n => prod H W (j 1) n) C S (j 1) (j 2) := by
  have h := lower_at (j 1) (j 2)
  unfold lower at h
  pointwise [k0_pay16]
  rw [h]
  unfold turn
  split <;> rfl

/-- The keys' block of the retention: a row of products, scaled and turned. -/
theorem pay17_at (H : FVec Ideal S512x1024 .bf16) (C S : FVec Ideal S512x512 .f32) (W : FVec Ideal S1024x512 .bf16) (j : S1x512x512.Idx) :
    k0_pay17 (F := Ideal) H C S (Scalar.select (Scalar.cmpi .eq 2#32 0#32) 1#32 2#32) k0_pay12 k0_pay13 k0_pay14 W j
      = turn (fun n => prod H W (j 1) n * keyScale) C S (j 1) (j 2) := by
  have h := lower_at (j 1) (j 2)
  unfold lower at h
  pointwise [k0_pay17]
  rw [h]
  unfold turn
  split <;> rfl

/-- The gates' block: a product plus the bias. -/
theorem gate_sum_at (H : FVec Ideal S512x1024 .bf16) (W : FVec Ideal S1024x128 .bf16) (B : FVec Ideal S1x128 .f32) (j : S1x512x128.Idx) :
    k0_pay9 (F := Ideal) (k0_pay8 (F := Ideal) H W B) j = (∑ k : Fin 1024, H (ix2 (j 1) k) * W (ix2 k (j 2))) + B (ix2 0 (j 2)) := by
  pointwise [k0_pay9, k0_pay8]

end Cert.Kernel3Ideal.RefValue
end
-- ==== Proof.InProj.Stores.lean ====
/- What a grid point of the in-projection kernel leaves in its three result blocks, entry by entry. -/
module

public import proofs.«01_k».proof.Proof.InProj.Payloads

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (x0 : Vec Ideal S1x512x1024 .f32) (x1 : Vec Ideal S1x1024 .f32) (x2 x3 : Vec Ideal S1x1x1024 .f32) (x4 : Vec Ideal S1024x2048 .bf16)
  (x5 : Vec Ideal S1024x128 .bf16) (x6 : Vec Ideal S1024x2048 .bf16) (x7 : Vec Ideal S1x128 .f32) (x8 x9 : Vec Ideal S512x512 .f32)

/-- One entry of tokens times a block of 2048 columns. -/
abbrev wide (H : FVec Ideal S512x1024 .bf16) (W : FVec Ideal S1024x2048 .bf16) (r : Fin 512) (n : Fin 2048) : EReal :=
  ∑ k : Fin 1024, H (ix2 r k) * W (ix2 k n)

/-- The mLSTM's block. -/
abbrev block10 : Vec Ideal S1x512x2048 .bf16 := fun y =>
  if (y 2).val / 512 = 1 then wide (k0_pay3 (F := Ideal) x0 x1 x2 x3) x4 (y 1) (y 2) * keyScale
  else wide (k0_pay3 (F := Ideal) x0 x1 x2 x3) x4 (y 1) (y 2)

/-- The tokens the later stores use are the modulated tokens. -/
theorem whole : k0_pay19 (F := Ideal) x0 x1 x2 x3 x4 x5 x6 x7 x8 x9 = k0_pay3 (F := Ideal) x0 x1 x2 x3 := by
  funext x
  pointwise [k0_pay19, k0_pay3]

/-- The same tokens, as the first store spells them. -/
theorem whole' : k0_pay3 (F := Ideal) (View.ld x0 r0_0) (View.ld x1 r0_1) (View.ld x2 r0_2) (View.ld x3 r0_2) = k0_pay3 (F := Ideal) x0 x1 x2 x3 := by
  funext x
  pointwise [k0_pay3]

/-- The block of the mLSTM's part, as its stores leave it. -/
theorem out10 (y : S1x512x2048.Idx) : out0_10 (F := Ideal) x0 x1 x2 x3 x4 x5 x6 x7 x8 x9 y = block10 x0 x1 x2 x3 x4 y := by
  unfold out0_10
  canon_tiles x h
  case piece0 =>
    rw [pay7_at, whole]; unfold block10; rw [if_neg (by omega), show y 1 = x 1 from Fin.ext h1, show y 2 = ⟨1536 + (x 2).val, by omega⟩ from Fin.ext (by simpa using h2)]
    pointwise [prod, wide]
  case piece1 =>
    rw [pay6_at, whole]; unfold block10; rw [if_neg (by omega), show y 1 = x 1 from Fin.ext h1, show y 2 = ⟨1024 + (x 2).val, by omega⟩ from Fin.ext (by simpa using h2)]
    pointwise [prod, wide]
  case piece2 =>
    rw [pay5_at, whole]; unfold block10; rw [if_pos (by omega), show y 1 = x 1 from Fin.ext h1, show y 2 = ⟨512 + (x 2).val, by omega⟩ from Fin.ext (by simpa using h2)]
    pointwise [prod, wide]
  case piece3 =>
    rw [pay4_at, whole']; unfold block10; rw [if_neg (by omega), show y 1 = x 1 from Fin.ext h1, show y 2 = ⟨0 + (x 2).val, by omega⟩ from Fin.ext (by simpa using h2)]
    pointwise [prod, wide]

/-- The block of the gates' part. -/
theorem out11 (y : S1x512x128.Idx) : out0_11 (F := Ideal) x0 x1 x2 x3 x4 x5 x6 x7 x8 x9 y
    = (∑ k : Fin 1024, k0_pay3 (F := Ideal) x0 x1 x2 x3 (ix2 (y 1) k) * x5 (ix2 k (y 2))) + x7 (ix2 0 (y 2)) := by
  unfold out0_11
  canon_tiles x h
  all_goals
    rw [gate_sum_at, whole, show y 1 = x 1 from Fin.ext h1, show y 2 = x 2 from Fin.ext h2]
    pointwise

/-- The block of the retention's part. -/
abbrev block12 : Vec Ideal S1x512x2048 .bf16 := fun y =>
  if (y 2).val < 512 then turn (fun n => wide (k0_pay3 (F := Ideal) x0 x1 x2 x3) x6 (y 1) ⟨n.val, by omega⟩) x8 x9 (y 1) ⟨(y 2).val % 512, by omega⟩
  else if (y 2).val < 1024 then
    turn (fun n => wide (k0_pay3 (F := Ideal) x0 x1 x2 x3) x6 (y 1) ⟨512 + n.val, by omega⟩ * keyScale) x8 x9 (y 1) ⟨(y 2).val % 512, by omega⟩
  else wide (k0_pay3 (F := Ideal) x0 x1 x2 x3) x6 (y 1) (y 2)

/-- The cosines' block is read whole. -/
theorem cos_whole : k0_pay20 (F := Ideal) x0 x1 x2 x3 x4 x5 x6 x7 x8 x9 = x8 := by
  funext i
  pointwise [k0_pay20, k0_pay10]

/-- The sines' block is read whole. -/
theorem sin_whole : k0_pay21 (F := Ideal) x0 x1 x2 x3 x4 x5 x6 x7 x8 x9 = x9 := by
  funext i
  pointwise [k0_pay21, k0_pay11]

/-- A product with the first 512 columns. -/
theorem prod_first (H : FVec Ideal S512x1024 .bf16) (r n : Fin 512) : prod H (View.ld x6 r0_3) r n = wide H x6 r ⟨n.val, by omega⟩ := by
  pointwise [prod, wide]

/-- A product with the second 512 columns. -/
theorem prod_second (H : FVec Ideal S512x1024 .bf16) (r n : Fin 512) : prod H (View.ld x6 r0_5) r n = wide H x6 r ⟨512 + n.val, by omega⟩ := by
  pointwise [prod, wide]

/-- The block of the retention's part, as its stores leave it. -/
theorem out12 (y : S1x512x2048.Idx) : out0_12 (F := Ideal) x0 x1 x2 x3 x4 x5 x6 x7 x8 x9 y = block12 x0 x1 x2 x3 x6 x8 x9 y := by
  unfold out0_12 k0_pay22 k0_pay23 k0_pay24
  canon_tiles x h
  case piece0 =>
    rw [pay2_at, whole]; unfold block12; rw [if_neg (by omega), if_neg (by omega), show y 1 = x 1 from Fin.ext h1, show y 2 = ⟨1536 + (x 2).val, by omega⟩ from Fin.ext (by simpa using h2)]
    pointwise [prod, wide]
  case piece1 =>
    rw [pay1_at, whole]; unfold block12; rw [if_neg (by omega), if_neg (by omega), show y 1 = x 1 from Fin.ext h1, show y 2 = ⟨1024 + (x 2).val, by omega⟩ from Fin.ext (by simpa using h2)]
    pointwise [prod, wide]
  case piece2 =>
    rw [pay17_at, whole, cos_whole, sin_whole]; unfold block12; rw [if_neg (by omega), if_pos (by omega), show y 1 = x 1 from Fin.ext h1,
      show (⟨(y 2).val % 512, by omega⟩ : Fin 512) = x 2 from Fin.ext (by show (y 2).val % 512 = (x 2).val; omega)]
    exact congrArg (fun p => turn p x8 x9 (x 1) (x 2)) (funext fun n => congrArg (· * keyScale) (prod_second x6 _ _ n))
  case piece3 =>
    rw [pay16_at, whole, cos_whole, sin_whole]; unfold block12; rw [if_pos (by omega), show y 1 = x 1 from Fin.ext h1,
      show (⟨(y 2).val % 512, by omega⟩ : Fin 512) = x 2 from Fin.ext (by show (y 2).val % 512 = (x 2).val; omega)]
    exact congrArg (fun p => turn p x8 x9 (x 1) (x 2)) (funext fun n => prod_first x6 _ _ n)

end Cert.Kernel3Ideal.RefValue
end
-- ==== Proof.InProj.Final.lean ====
/- The in-projection kernel's three results are the reference's. -/
module

public import proofs.«01_k».proof.Proof.InProj.Tables
public import proofs.«01_k».proof.Proof.InProj.Reads
public import proofs.«01_k».proof.Proof.InProj.Stores

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen
open Cert.Reference3Ideal.Spec (modulated projected mlstmPart gatePart retentionPart rowAngles colAngles angleAt spin)

variable (m : (ℓ : Loc nD τ sig) → Buf (Elt Ideal) ℓ)

/-- The projected columns of the program's arguments. -/
abbrev cols (c : Dev nD) : FVec Ideal Cert.Reference3Ideal.S4x4096x4112 .f32 :=
  projected (hidden m c) (m ((c : Thread nD τ).loc main_arg4))

/-- The tokens a point modulates. -/
abbrev tokens (c : Dev nD) (t : Fin cfg0.N) : FVec Ideal S512x1024 .bf16 :=
  k0_pay3 (F := Ideal) (iblk m c 0 t) (iblk m c 1 t) (iblk m c 2 t) (iblk m c 3 t)

/-- A point's product with the mLSTM's columns is the projected column. -/
theorem wide_mlstm (c : Dev nD) (t : Fin cfg0.N) (r : Fin 512) (n : Fin 2048) (b : Fin 4) (s : Fin 4096) (n' : Fin 4112)
    (hb : (b : ℕ) = t.val / 8) (hs : (s : ℕ) = t.val % 8 * 512 + r) (hn : (n' : ℕ) = n) :
    wide (tokens m c t) (iblk m c 4 t) r n = cols m c (ix3 b s n') := by
  refine Eq.trans ?_ (Cert.Reference3Ideal.Spec.projected_at _ _ b s n').symm
  refine Finset.sum_congr rfl fun k _ => ?_
  refine congrArg₂ (· * ·) (hidden_at m c t (ix2 r k) (ix3 b s k) hb hs rfl) ((mlstm_at m c t k n).trans ?_)
  exact congrArg (fun i => m ((c : Thread nD τ).loc main_arg4) (ix3 0 k i)) (Fin.ext hn.symm)

/-- A point's product with the retention's columns is the projected column. -/
theorem wide_ret (c : Dev nD) (t : Fin cfg0.N) (r : Fin 512) (n : Fin 2048) (b : Fin 4) (s : Fin 4096) (n' : Fin 4112)
    (hb : (b : ℕ) = t.val / 8) (hs : (s : ℕ) = t.val % 8 * 512 + r) (hn : (n' : ℕ) = 2064 + n) :
    wide (tokens m c t) (iblk m c 6 t) r n = cols m c (ix3 b s n') := by
  refine Eq.trans ?_ (Cert.Reference3Ideal.Spec.projected_at _ _ b s n').symm
  refine Finset.sum_congr rfl fun k _ => ?_
  refine congrArg₂ (· * ·) (hidden_at m c t (ix2 r k) (ix3 b s k) hb hs rfl) ((ret_at m c t k n).trans ?_)
  exact congrArg (fun i => m ((c : Thread nD τ).loc main_arg4) (ix3 0 k i)) (Fin.ext hn.symm)

/-- A point's product with the gates' columns, its bias added, is the reference's gate. -/
theorem gate_sum (c : Dev nD) (t : Fin cfg0.N) (r : Fin 512) (n : Fin 128) (b : Fin 4) (s : Fin 4096)
    (hb : (b : ℕ) = t.val / 8) (hs : (s : ℕ) = t.val % 8 * 512 + r) :
    (∑ k : Fin 1024, tokens m c t (ix2 r k) * (show FVec Ideal S1024x128 .bf16 from iblk m c 5 t) (ix2 k n))
        + (show FVec Ideal S1x128 .f32 from iblk m c 7 t) (ix2 0 n)
      = gatePart (cols m c) (m ((c : Thread nD τ).loc main_arg5)) (ix3 b s n) := by
  refine Eq.trans ?_ (Cert.Reference3Ideal.Spec.gate_part_at _ _ b s n).symm
  by_cases h : n.val < 16
  · rw [dif_pos h]
    refine congrArg₂ (· + ·) ?_ ((bias_at m c t n).trans (dif_pos h))
    refine Eq.trans ?_ (Cert.Reference3Ideal.Spec.projected_at _ _ b s _).symm
    exact Finset.sum_congr rfl fun k _ => congrArg₂ (· * ·) (hidden_at m c t (ix2 r k) (ix3 b s k) hb hs rfl)
      ((gate_at m c t k n).trans (dif_pos h))
  · rw [dif_neg h]
    refine (congrArg₂ (· + ·) (Finset.sum_eq_zero fun k _ => ?_) ((bias_at m c t n).trans (dif_neg h))).trans (add_zero _)
    exact (congrArg (tokens m c t (ix2 r k) * ·) ((gate_at m c t k n).trans (dif_neg h))).trans (mul_zero _)

/-- The cosines' block at a point. -/
theorem cos_at (c : Dev nD) (t : Fin cfg0.N) (r n : Fin 512) (s : Fin 4096) (hs : (s : ℕ) = t.val % 8 * 512 + r) :
    (show FVec Ideal S512x512 .f32 from iblk m c 8 t) (ix2 r n) = Ideal.cos (angleAt s n) := by
  show V m c main_v48 ((win0_8.blk t).view.emb (ix2 r n)) = _
  have he : (win0_8.blk t).view.emb (ix2 r n) = ix2 s n := by blk_ext [idx t]
  rw [he, V_cos, table_at]
  unfold angleAt
  pointwise
  by_cases h : n.val % 128 < 64
  · rw [if_pos h]
    by_cases h0 : n.val % 128 / 32 = 0
    · rw [if_pos h0]
    · rw [if_neg h0, if_pos (by omega)]
  · rw [if_neg h, if_neg (by omega), if_neg (by omega)]
    by_cases h0 : n.val % 128 / 32 = 2
    · rw [if_pos h0]
    · rw [if_neg h0]

/-- The sines' block at a point: negated where the partner lies above. -/
theorem sin_at (c : Dev nD) (t : Fin cfg0.N) (r n : Fin 512) (s : Fin 4096) (hs : (s : ℕ) = t.val % 8 * 512 + r) :
    (show FVec Ideal S512x512 .f32 from iblk m c 9 t) (ix2 r n)
      = if n.val / 32 % 2 = 0 then -Ideal.sin (angleAt s n) else Ideal.sin (angleAt s n) := by
  show V m c main_v51 ((win0_9.blk t).view.emb (ix2 r n)) = _
  have he : (win0_9.blk t).view.emb (ix2 r n) = ix2 s n := by blk_ext [idx t]
  rw [he, V_sin, table_at]
  unfold angleAt
  pointwise
  by_cases h : n.val % 128 < 64
  · rw [if_pos h]
    by_cases h0 : n.val % 128 / 32 = 0
    · rw [if_pos h0, if_pos (by omega)]
    · rw [if_neg h0, if_pos (by omega), if_neg (by omega)]
  · rw [if_neg h, if_neg (by omega), if_neg (by omega)]
    by_cases h0 : n.val % 128 / 32 = 2
    · rw [if_pos h0, if_pos (by omega)]
    · rw [if_neg h0, if_neg (by omega)]

/-- A row's turn by a point's tables is the reference's turn. -/
theorem turn_spin (c : Dev nD) (t : Fin cfg0.N) (u : Fin 512 → EReal) (r n : Fin 512) (s : Fin 4096) (hs : (s : ℕ) = t.val % 8 * 512 + r) :
    turn u (iblk m c 8 t) (iblk m c 9 t) r n = spin u s n := by
  have hc := cos_at m c t r n s hs
  have hn := sin_at m c t r n s hs
  unfold turn spin
  refine (congrArg₂ (fun a b => u n * a + _ * b) hc hn).trans ?_
  by_cases h : n.val / 32 % 2 = 0
  · rw [if_pos h, if_pos h, if_pos h, mul_neg, sub_eq_add_neg]
    refine congrArg (fun i => _ + -(u i * _)) (Fin.ext ?_)
    show (n.val + 512 - 480) % 512 = (n.val + 32) % 512
    omega
  · rw [if_neg h, if_neg h, if_neg h, add_comm]
    refine congrArg (fun i => u i * _ + _) (Fin.ext ?_)
    show (n.val + 512 - 32) % 512 = (n.val + 480) % 512
    omega

/-- The mLSTM's part is the reference's. -/
theorem final10 (c : Dev nD) : (dats m 0 c).arrAt 10 cfg0.N = mlstmPart (cols m c) := by
  refine (dats m 0 c).arrAt_eq_of_covers 10 _ (by decide +kernel) fun t _ y => ?_
  blk_simp
  rw [after0_10]
  refine (out10 _ _ _ _ _ _ _ _ _ _ y).trans ?_
  obtain ⟨b, s, n, hj, hb, hs, hn⟩ : ∃ (b : Fin 4) (s : Fin 4096) (n : Fin 2048), (win0_10.blk t).view.emb y = ix3 b s n
      ∧ (b : ℕ) = t.val / 8 ∧ (s : ℕ) = t.val % 8 * 512 + y 1 ∧ n = y 2 := by
    refine ⟨(win0_10.blk t).view.emb y 0, (win0_10.blk t).view.emb y 1, (win0_10.blk t).view.emb y 2, by blk_ext, ?_, ?_, Fin.ext ?_⟩
    all_goals (blk_simp [idx t] <;> try omega)
  subst hn
  rw [hj]
  refine Eq.trans ?_ (Cert.Reference3Ideal.Spec.mlstm_part_at _ b s (y 2)).symm
  unfold block10
  by_cases h : (y 2).val / 512 = 1
  · rw [if_pos h, if_pos h]; exact congrArg (· * keyScale) (wide_mlstm m c t (y 1) (y 2) b s _ hb hs rfl)
  · rw [if_neg h, if_neg h]; exact wide_mlstm m c t (y 1) (y 2) b s _ hb hs rfl

/-- The gates' part is the reference's. -/
theorem final11 (c : Dev nD) : (dats m 0 c).arrAt 11 cfg0.N = gatePart (cols m c) (m ((c : Thread nD τ).loc main_arg5)) := by
  refine (dats m 0 c).arrAt_eq_of_covers 11 _ (by decide +kernel) fun t _ y => ?_
  blk_simp
  rw [after0_11]
  refine (out11 _ _ _ _ _ _ _ _ _ _ y).trans ?_
  obtain ⟨b, s, hj, hb, hs⟩ : ∃ (b : Fin 4) (s : Fin 4096), (win0_11.blk t).view.emb y = ix3 b s (y 2)
      ∧ (b : ℕ) = t.val / 8 ∧ (s : ℕ) = t.val % 8 * 512 + y 1 := by
    refine ⟨(win0_11.blk t).view.emb y 0, (win0_11.blk t).view.emb y 1, by blk_ext [idx t], ?_, ?_⟩
    all_goals (blk_simp [idx t] <;> try omega)
  rw [hj]
  exact gate_sum m c t (y 1) (y 2) b s hb hs

/-- The retention's part is the reference's. -/
theorem final12 (c : Dev nD) : (dats m 0 c).arrAt 12 cfg0.N = retentionPart (cols m c) := by
  refine (dats m 0 c).arrAt_eq_of_covers 12 _ (by decide +kernel) fun t _ y => ?_
  blk_simp
  rw [after0_12]
  refine (out12 _ _ _ _ _ _ _ _ _ _ y).trans ?_
  obtain ⟨b, s, n, hj, hb, hs, hn⟩ : ∃ (b : Fin 4) (s : Fin 4096) (n : Fin 2048), (win0_12.blk t).view.emb y = ix3 b s n
      ∧ (b : ℕ) = t.val / 8 ∧ (s : ℕ) = t.val % 8 * 512 + y 1 ∧ n = y 2 := by
    refine ⟨(win0_12.blk t).view.emb y 0, (win0_12.blk t).view.emb y 1, (win0_12.blk t).view.emb y 2, by blk_ext, ?_, ?_, Fin.ext ?_⟩
    all_goals (blk_simp [idx t] <;> try omega)
  subst hn
  rw [hj]
  refine Eq.trans ?_ (Cert.Reference3Ideal.Spec.retention_part_at _ b s (y 2)).symm
  unfold block12
  by_cases h0 : (y 2).val < 512
  · rw [if_pos h0, if_pos h0]
    refine (turn_spin m c t _ (y 1) _ s hs).trans ?_
    exact congrArg (fun u => spin u s _) (funext fun k => wide_ret m c t (y 1) _ b s _ hb hs rfl)
  by_cases h1 : (y 2).val < 1024
  · rw [if_neg h0, if_pos h1, if_neg h0, if_pos h1]
    refine (turn_spin m c t _ (y 1) _ s hs).trans ?_
    refine congrArg (fun u => spin u s _) (funext fun k => congrArg (· * keyScale) (wide_ret m c t (y 1) _ b s _ hb hs ?_))
    show 2576 + k.val = 2064 + (512 + k.val)
    omega
  · rw [if_neg h0, if_neg h1, if_neg h0, if_neg h1]
    exact wide_ret m c t (y 1) (y 2) b s _ hb hs rfl

end Cert.Kernel3Ideal.RefValue
end
-- ==== Proof.InProj.Pair.lean ====
/- The in-projection kernel and its reference end with the same three results. -/
module

public import proofs.«01_k».proof.Defs
public import proofs.«01_k».proof.Proof.InProj.Final
public import Idealize.ShloMosaic.Lib.Claim

@[expose] public section

set_option maxRecDepth 16384

noncomputable section

open Idealize.ShloMosaic Idealize.ShloMosaic.TcCoe Idealize.SL.Sem

namespace Cert.Proof

/-- From equal arguments the reference's projected columns are the kernel's. -/
theorem columns_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Spec.columns m' c = Cert.Kernel3Ideal.RefValue.cols m c := by
  unfold Cert.Reference3Ideal.Spec.columns
  rw [h0, h1, h2, h3, h4]

/-- The in-projection kernel and its reference end with the same three result arrays. -/
theorem inproj_algebraic : Cert.algebraic_Kernel3Ideal_Reference3Ideal := by
  intro m g m' g' _ ha
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, ?_, ?_⟩
  · exact Cert.Kernel3Ideal.Value.run_blocks m g
  · refine (θ_run Cert.Reference3Ideal.defs _ _).mono (fun r h c => ?_) (Cert.Reference3Ideal.Value.run (F := Ideal) m' g')
    obtain ⟨h0, h1, h2, h3, h4, h5⟩ := ha c
    have hc := columns_eq m m' c h0 h1 h2 h3 h4
    refine ⟨(h c).1.trans ?_, (h c).2.1.trans ?_, (h c).2.2.1.trans ?_, (h c).2.2.2⟩
    · exact (congrArg Cert.Reference3Ideal.Spec.mlstmPart hc).trans (Cert.Kernel3Ideal.RefValue.final10 m c).symm
    · exact (congrArg₂ Cert.Reference3Ideal.Spec.gatePart hc h5).trans (Cert.Kernel3Ideal.RefValue.final11 m c).symm
    · exact (congrArg Cert.Reference3Ideal.Spec.retentionPart hc).trans (Cert.Kernel3Ideal.RefValue.final12 m c).symm

/-- The in-projection's reference leaves its arguments as they were and its semaphores at zero. -/
theorem frame_reference3 : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run (F := Ideal) m g)

end Cert.Proof
end
-- ==== Proof.OutProj.Spec.lean ====
/- The out-projection's reference, written as a few named functions of its arguments, and these functions entry by entry. -/
module

public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Reference4Ideal.Spec

open Cert.Reference4Ideal Cert.Reference4Ideal.Gen Idealize.ShloMosaic Idealize.ShloMosaic.TcCoe Idealize.SL.Sem Idealize.ShloMosaic.StableHlo

/-- The merged heads through the output projection. -/
def mixed (ym yr : FVec Ideal S4x4096x512 .bf16) (w : FVec Ideal S1x1024x1024 .f32) : FVec Ideal S4x4096x1024 .f32 :=
  Host.dotGeneral dot_S4x4096x1024_S1024x1024_S4x4096x1024_2_0_01_1_n_n none (concatenate S4x4096x1024 2 [⟨S4x4096x512, (extf .f32 ym bitsLt_bf16_f32)⟩, ⟨S4x4096x512, (extf .f32 yr bitsLt_bf16_f32)⟩] concatenates_S4x4096x512_S4x4096x512_S4x4096x1024_d2) (shapeCast _ w shapeCasts_S1x1024x1024_S1024x1024)

/-- The gated residual. -/
def residual (x : FVec Ideal S4x4096x1024 .f32) (g : FVec Ideal S4x1x1024 .f32) (y : FVec Ideal S4x4096x1024 .f32) : FVec Ideal S4x4096x1024 .f32 :=
  addf x (mulf (broadcastInDim S4x4096x1024 ![0, 1, 2] bcast_S4x1x1024_S4x4096x1024_0_1_2 g) y)

/-- The residual under its root mean square, times the norm's weight, times one plus the scale, plus the shift. -/
def modulated (x : FVec Ideal S4x4096x1024 .f32) (nw : FVec Ideal S1x1024 .f32) (sh sc : FVec Ideal S4x1x1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 (shapeCast _ nw shapeCasts_S1x1024_S1024))))
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

/-- The router's scores, the least value past the experts. -/
def scores (h : FVec Ideal S4x4096x1024 .f32) (w : FVec Ideal S1x1024x16 .f32) : FVec Ideal S4x4096x128 .f32 :=
  pad S4x4096x128 ![0, 0, 0] ![0, 0, 112] ![0, 0, 0] (Host.dotGeneral dot_S4x4096x1024_S1024x16_S4x4096x16_2_0_01_1_n_n none h (shapeCast _ w shapeCasts_S1x1024x16_S1024x16)) (id (constant S_ .f32 0xFF800000#32)) pads_S4x4096x16_S4x4096x128_000_000_01120 h_S_

/-- Each token's largest score. -/
def peak (l : FVec Ideal S4x4096x128 .f32) : FVec Ideal S4x4096 .f32 :=
  Host.reduce FloatOps.maximumf l (constant S_ .f32 0xFF800000#32) reducesTo_S4x4096x128_S4x4096_d2 h_S_

/-- The exponentials of the scores less their maxima. -/
def weights (l : FVec Ideal S4x4096x128 .f32) (p : FVec Ideal S4x4096 .f32) : FVec Ideal S4x4096x128 .f32 :=
  Host.exp (subf l (broadcastInDim S4x4096x128 ![0, 1, 2] bcast_S4x4096x1_S4x4096x128_0_1_2 (broadcastInDim S4x4096x1 ![0, 1] bcast_S4x4096_S4x4096x1_0_1 (maximumf (broadcastInDim S4x4096 ![] bcast_S_S4x4096 (constant S_ .f32 0xFF800000#32)) p))))

/-- The weights over their sum. -/
def shares (e : FVec Ideal S4x4096x128 .f32) : FVec Ideal S4x4096x128 .f32 :=
  Host.divf e (broadcastInDim S4x4096x128 ![0, 1, 2] bcast_S4x4096x1_S4x4096x128_0_1_2 (broadcastInDim S4x4096x1 ![0, 1] bcast_S4x4096_S4x4096x1_0_1 (Host.reduceAdd e (constant S_ .f32 0x00000000#32) reducesTo_S4x4096x128_S4x4096_d2 h_S_)))

/-- The softmax of the scores. -/
def softmax (l : FVec Ideal S4x4096x128 .f32) : FVec Ideal S4x4096x128 .f32 :=
  shares (weights l (peak l))

variable (m : (ℓ : Loc nD τ sig) → Buf (Elt Ideal) ℓ)

/-- The residual of the program's arguments. -/
def stream (c : Dev nD) : FVec Ideal S4x4096x1024 .f32 :=
  residual (m ((c.tc : Thread nD τ).loc main_arg2)) (m ((c.tc : Thread nD τ).loc main_arg3)) (mixed (m ((c.tc : Thread nD τ).loc main_arg0)) (m ((c.tc : Thread nD τ).loc main_arg1)) (m ((c.tc : Thread nD τ).loc main_arg7)))

/-- The experts' input of the program's arguments. -/
def inputs (c : Dev nD) : FVec Ideal S4x4096x1024 .f32 :=
  modulated (stream m c) (m ((c.tc : Thread nD τ).loc main_arg4)) (m ((c.tc : Thread nD τ).loc main_arg5)) (m ((c.tc : Thread nD τ).loc main_arg6))

/-- The third result is the softmax of the router's scores. -/
theorem res2 (c : Dev nD) : Value.res_out2 m c = softmax (scores (inputs m c) (m ((c.tc : Thread nD τ).loc main_arg8))) := rfl

/-! ## Entry by entry -/

/-- The output projection's sum, the mLSTM's half of the heads first. -/
theorem mixed_at (ym yr : FVec Ideal S4x4096x512 .bf16) (w : FVec Ideal S1x1024x1024 .f32) (b : Fin 4) (s : Fin 4096) (n : Fin 1024) :
    mixed ym yr w (ix3 b s n) = (∑ k : Fin 512, ym (ix3 b s k) * w (ix3 0 ⟨k.val, by omega⟩ n)) + ∑ k : Fin 512, yr (ix3 b s k) * w (ix3 0 ⟨512 + k.val, by omega⟩ n) := by
  pointwise [mixed]

/-- The residual's entry. -/
theorem residual_at (x : FVec Ideal S4x4096x1024 .f32) (g : FVec Ideal S4x1x1024 .f32) (y : FVec Ideal S4x4096x1024 .f32) (b : Fin 4) (s : Fin 4096) (n : Fin 1024) :
    residual x g y (ix3 b s n) = x (ix3 b s n) + g (ix3 b 0 n) * y (ix3 b s n) := by
  pointwise [residual]

/-- The modulation of a row. -/
abbrev modRow (u w sh sc : Fin 1024 → EReal) (n : Fin 1024) : EReal :=
  u n * Ideal.rsqrt (Ideal.div (∑ k : Fin 1024, u k * u k) (Ideal.ofBits .f32 0x44800000#32) + Ideal.ofBits .f32 0x358637BD#32) * w n * (1 + sc n) + sh n

/-- The modulated residual's entry. -/
theorem modulated_at (x : FVec Ideal S4x4096x1024 .f32) (nw : FVec Ideal S1x1024 .f32) (sh sc : FVec Ideal S4x1x1024 .f32) (b : Fin 4) (s : Fin 4096) (n : Fin 1024) :
    modulated x nw sh sc (ix3 b s n)
      = modRow (fun k => x (ix3 b s k)) (fun k => nw (ix2 0 k)) (fun k => sh (ix3 b 0 k)) (fun k => sc (ix3 b 0 k)) n := by
  pointwise [modulated]

/-- The pattern the maxima start from is the least value. -/
theorem least : Ideal.ofBits .f32 0xFF800000#32 = (⊥ : EReal) := by
  simp [Ideal.ofBits, Ideal.ieee]

/-- A score is a sum over the features; past the experts it is the least value. -/
theorem scores_at (h : FVec Ideal S4x4096x1024 .f32) (w : FVec Ideal S1x1024x16 .f32) (b : Fin 4) (s : Fin 4096) (n : Fin 128) :
    scores h w (ix3 b s n) = if hn : n.val < 16 then ∑ k : Fin 1024, h (ix3 b s k) * w (ix3 0 k ⟨n.val, hn⟩) else (⊥ : EReal) := by
  pointwise [scores]
  by_cases hn : n.val < 16
  · rw [dif_pos hn, dif_pos hn]
  · rw [dif_neg hn, dif_neg hn]; exact least

/-- The softmax of a row of scores. -/
abbrev softRow (q : Fin 128 → EReal) (n : Fin 128) : EReal :=
  Ideal.div (Ideal.exp (q n - Finset.univ.fold max (⊥ : EReal) q)) (∑ k : Fin 128, Ideal.exp (q k - Finset.univ.fold max (⊥ : EReal) q))

/-- One maximum. -/
theorem peak_at (l : FVec Ideal S4x4096x128 .f32) (b : Fin 4) (s : Fin 4096) :
    peak l (ix2 b s) = Finset.univ.fold max (⊥ : EReal) fun k : Fin 128 => l (ix3 b s k) := by
  pointwise [peak]
  rw [least]

/-- One exponential. -/
theorem weights_at (l : FVec Ideal S4x4096x128 .f32) (p : FVec Ideal S4x4096 .f32) (b : Fin 4) (s : Fin 4096) (n : Fin 128) :
    weights l p (ix3 b s n) = Ideal.exp (l (ix3 b s n) - p (ix2 b s)) := by
  pointwise [weights]
  rw [least, bot_sup_eq]

/-- One share. -/
theorem shares_at (e : FVec Ideal S4x4096x128 .f32) (b : Fin 4) (s : Fin 4096) (n : Fin 128) :
    shares e (ix3 b s n) = Ideal.div (e (ix3 b s n)) (∑ k : Fin 128, e (ix3 b s k)) := by
  pointwise [shares]

/-- The softmax of a row of scores, entry by entry. -/
theorem softmax_at (l : FVec Ideal S4x4096x128 .f32) (b : Fin 4) (s : Fin 4096) (n : Fin 128) :
    softmax l (ix3 b s n) = softRow (fun k => l (ix3 b s k)) n := by
  unfold softmax
  rw [shares_at]
  simp only [weights_at, peak_at]

end Cert.Reference4Ideal.Spec
end
-- ==== Proof.OutProj.Payloads.lean ====
/- What the out-projection kernel computes from its blocks, entry by entry, for any blocks. -/
module

public import proofs.«01_k».proof.Proof.Gen.Kernel4Ideal.Value
public import proofs.«01_k».proof.Proof.OutProj.Spec
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen
open Cert.Reference4Ideal.Spec (modRow softRow least)

/-- The residual's entry: the input plus the gate times the two halves' products. -/
theorem pay1_at (v0 : Vec Ideal S1x512x512 .bf16) (v2 : Vec Ideal S512x1024 .bf16) (v5 : Vec Ideal S1x512x512 .bf16) (v7 : Vec Ideal S512x1024 .bf16)
    (v11 : Vec Ideal S1x512x1024 .f32) (v13 : Vec Ideal S1x1x1024 .f32) (r : Fin 512) (n : Fin 1024) :
    k0_pay1 (F := Ideal) v0 v2 v5 v7 v11 v13 (ix2 r n)
      = v11 (ix3 0 r n) + v13 (ix3 0 0 n) * ((∑ k : Fin 512, v0 (ix3 0 r k) * v2 (ix2 k n)) + ∑ k : Fin 512, v5 (ix3 0 r k) * v7 (ix2 k n)) := by
  pointwise [k0_pay1]

/-- The first store holds the residual. -/
theorem pay2_at (v0 : Vec Ideal S1x512x512 .bf16) (v2 : Vec Ideal S512x1024 .bf16) (v5 : Vec Ideal S1x512x512 .bf16) (v7 : Vec Ideal S512x1024 .bf16)
    (v11 : Vec Ideal S1x512x1024 .f32) (v13 : Vec Ideal S1x1x1024 .f32) (j : S1x512x1024.Idx) :
    k0_pay2 (F := Ideal) v0 v2 v5 v7 v11 v13 j = k0_pay1 (F := Ideal) v0 v2 v5 v7 v11 v13 (ix2 (j 1) (j 2)) := by
  pointwise [k0_pay2]

/-- The modulated residual's entry. -/
theorem pay7_at (u : FVec Ideal S512x1024 .f32) (nw : Vec Ideal S1x1024 .f32) (sh sc : Vec Ideal S1x1x1024 .f32) (r : Fin 512) (n : Fin 1024) :
    k0_pay7 (F := Ideal) u (k0_pay3 (F := Ideal) nw) (k0_pay4 (F := Ideal) sh) (k0_pay5 (F := Ideal) sc) (mulf u u) (ix2 r n)
      = modRow (fun k => u (ix2 r k)) (fun k => nw (ix2 0 k)) (fun k => sh (ix3 0 0 k)) (fun k => sc (ix3 0 0 k)) n := by
  pointwise [k0_pay7, k0_pay3, k0_pay4, k0_pay5]

/-- The second store holds the modulated residual. -/
theorem pay8_at (u : FVec Ideal S512x1024 .f32) (a b d : FVec Ideal S1x1024 .f32) (e : FVec Ideal S512x1024 .f32) (j : S1x512x1024.Idx) :
    k0_pay8 (F := Ideal) u a b d e j = k0_pay7 (F := Ideal) u a b d e (ix2 (j 1) (j 2)) := by
  pointwise [k0_pay8]

/-- The scores of the lanes, the least value from lane 16 on. -/
def masked (h : FVec Ideal S512x1024 .f32) (w : FVec Ideal S1024x128 .f32) : FVec Ideal S512x128 .f32 :=
  select (cmpi .slt (iota .tc S512x128 32 [1] iota_S512x128_d1_w32) (broadcast S512x128 16#32))
    (matmul dot_S512x1024_S1024x128_S512x128_1_0_0_1_n_n (some .fp32) h (shapeCast S1024x128 w shapeCasts_S1024x128_S1024x128) (constant S512x128 .f32 0x00000000#32))
    (broadcast S512x128 (Scalar.ofBits .f32 0xFF800000#32))

/-- Each row's largest score. -/
def top (q : FVec Ideal S512x128 .f32) : FVec Ideal S512 .f32 :=
  multiReduction .maximumf [1] S512 q 0xFF800000#32 reduces_S512x128_S512 (.inl rfl) rfl

/-- The exponentials of the scores less their row's number. -/
def powers (q : FVec Ideal S512x128 .f32) (p : FVec Ideal S512 .f32) : FVec Ideal S512x128 .f32 :=
  exp (subf q (broadcastTo S512x128 (shapeCast S512x1 p shapeCasts_S512_S512x1) broadcasts_S512x1_S512x128))

/-- The exponentials over their row's sum. -/
def parts (e : FVec Ideal S512x128 .f32) : FVec Ideal S1x512x128 .f32 :=
  shapeCast S1x512x128 (divf e (broadcastTo S512x128 (shapeCast S512x1 (multiReduction .add [1] S512 e 0x00000000#32 reduces_S512x128_S512 (.inl rfl) rfl) shapeCasts_S512_S512x1) broadcasts_S512x1_S512x128)) shapeCasts_S512x128_S1x512x128

/-- The third store is these four steps. -/
theorem pay9_eq (u : FVec Ideal S512x1024 .f32) (a b d : FVec Ideal S1x1024 .f32) (e : FVec Ideal S512x1024 .f32) (w : Vec Ideal S1024x128 .f32) :
    k0_pay9 (F := Ideal) u a b d e w
      = parts (powers (masked (k0_pay7 (F := Ideal) u a b d e) w) (top (masked (k0_pay7 (F := Ideal) u a b d e) w))) := rfl

/-- A lane's score: the sum below lane 16, the least value above. -/
abbrev score (p : Fin 128 → EReal) (n : Fin 128) : EReal := if n.val < 16 then p n else (⊥ : EReal)

/-- The lanes below 16, by the comparison of the lane's number. -/
theorem lane : ∀ n : Fin 128, (IntOp.cmpi CmpIPredicate.slt (BitVec.ofNat 32 n.val) 16#32 : BitVec 1) = if n.val < 16 then 1#1 else 0#1 := by
  decide +kernel

/-- One lane's score. -/
theorem masked_at (h : FVec Ideal S512x1024 .f32) (w : FVec Ideal S1024x128 .f32) (r : Fin 512) (n : Fin 128) :
    masked h w (ix2 r n) = score (fun n => ∑ k : Fin 1024, h (ix2 r k) * w (ix2 k n)) n := by
  pointwise [masked]
  rw [lane n, least]
  by_cases h : n.val < 16
  · rw [if_pos h]; exact (if_pos h).symm
  · rw [if_neg h]; exact (if_neg h).symm

/-- One row's largest score. -/
theorem top_at (q : FVec Ideal S512x128 .f32) (r : Fin 512) :
    top q (ix1 r) = Finset.univ.fold max (⊥ : EReal) fun k : Fin 128 => q (ix2 r k) := by
  pointwise [top]
  rw [least]

/-- One exponential. -/
theorem powers_at (q : FVec Ideal S512x128 .f32) (p : FVec Ideal S512 .f32) (r : Fin 512) (n : Fin 128) :
    powers q p (ix2 r n) = Ideal.exp (q (ix2 r n) - p (ix1 r)) := by
  pointwise [powers]

/-- One share. -/
theorem parts_at (e : FVec Ideal S512x128 .f32) (j : S1x512x128.Idx) :
    parts e j = Ideal.div (e (ix2 (j 1) (j 2))) (∑ k : Fin 128, e (ix2 (j 1) k)) := by
  pointwise [parts]

/-- The softmax of a row. -/
theorem soft_at (q : FVec Ideal S512x128 .f32) (r : Fin 512) (n : Fin 128) (j : S1x512x128.Idx) (hr : r = j 1) (hn : n = j 2) :
    parts (powers q (top q)) j = softRow (fun k => q (ix2 r k)) n := by
  subst hr hn
  refine (parts_at _ j).trans (congrArg₂ Ideal.div ?_ (Finset.sum_congr rfl fun k _ => ?_))
  all_goals exact (powers_at q _ (j 1) _).trans (congrArg (fun p => Ideal.exp (_ - p)) (top_at q (j 1)))

/-- The softmax over the 128 lanes of the masked scores. -/
theorem pay9_at (u : FVec Ideal S512x1024 .f32) (a b d : FVec Ideal S1x1024 .f32) (e : FVec Ideal S512x1024 .f32) (w : Vec Ideal S1024x128 .f32) (j : S1x512x128.Idx) :
    k0_pay9 (F := Ideal) u a b d e w j
      = softRow (score fun n => ∑ k : Fin 1024, k0_pay7 (F := Ideal) u a b d e (ix2 (j 1) k) * w (ix2 k n)) (j 2) := by
  rw [pay9_eq]
  refine (soft_at _ (j 1) (j 2) j rfl rfl).trans ?_
  exact congrArg (fun q => softRow q (j 2)) (funext fun k => masked_at _ w (j 1) k)

end Cert.Kernel4Ideal.RefValue
end
-- ==== Proof.OutProj.Stores.lean ====
/- What the out-projection kernel's body leaves in its three output blocks, entry by entry. -/
module

public import proofs.«01_k».proof.Proof.OutProj.Payloads
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen
open Cert.Reference4Ideal.Spec (modRow softRow)

variable (x0 x1 : Vec Ideal S1x512x512 .bf16) (x2 : Vec Ideal S1x512x1024 .f32) (x3 : Vec Ideal S1024x1024 .bf16)
  (x4 : Vec Ideal S1x1x1024 .f32) (x5 : Vec Ideal S1x1024 .f32) (x6 x7 : Vec Ideal S1x1x1024 .f32) (x8 : Vec Ideal S1024x128 .f32)

/-- A row of the residual, from the blocks. -/
abbrev rowAt (r : Fin 512) (n : Fin 1024) : EReal :=
  x2 (ix3 0 r n) + x4 (ix3 0 0 n) * ((∑ k : Fin 512, x0 (ix3 0 r k) * x3 (ix2 ⟨k.val, by omega⟩ n)) + ∑ k : Fin 512, x1 (ix3 0 r k) * x3 (ix2 ⟨512 + k.val, by omega⟩ n))

/-- A row of the modulated residual, from the blocks. -/
abbrev modAt (r : Fin 512) (n : Fin 1024) : EReal :=
  modRow (rowAt x0 x1 x2 x3 x4 r) (fun k => x5 (ix2 0 k)) (fun k => x6 (ix3 0 0 k)) (fun k => x7 (ix3 0 0 k)) n

/-- The residual's entry, the blocks read from their buffers. -/
theorem pay10_at (r : Fin 512) (n : Fin 1024) :
    k0_pay10 (F := Ideal) x0 x1 x2 x3 x4 x5 x6 x7 x8 (ix2 r n) = rowAt x0 x1 x2 x3 x4 r n := by
  unfold k0_pay10
  rw [pay1_at]
  pointwise

/-- The modulated residual's entry, the blocks read from their buffers. -/
theorem mod_at (r : Fin 512) (n : Fin 1024) :
    k0_pay7 (F := Ideal) (k0_pay10 (F := Ideal) x0 x1 x2 x3 x4 x5 x6 x7 x8) (k0_pay11 (F := Ideal) x0 x1 x2 x3 x4 x5 x6 x7 x8) (k0_pay12 (F := Ideal) x0 x1 x2 x3 x4 x5 x6 x7 x8)
        (k0_pay13 (F := Ideal) x0 x1 x2 x3 x4 x5 x6 x7 x8) (k0_pay14 (F := Ideal) x0 x1 x2 x3 x4 x5 x6 x7 x8) (ix2 r n)
      = modAt x0 x1 x2 x3 x4 x5 x6 x7 r n := by
  refine (pay7_at (k0_pay10 (F := Ideal) x0 x1 x2 x3 x4 x5 x6 x7 x8) (View.ld x5 r0_5) (View.ld x6 r0_4) (View.ld x7 r0_4) r n).trans ?_
  rw [show (fun k => k0_pay10 (F := Ideal) x0 x1 x2 x3 x4 x5 x6 x7 x8 (ix2 r k)) = rowAt x0 x1 x2 x3 x4 r from
    funext fun k => pay10_at x0 x1 x2 x3 x4 x5 x6 x7 x8 r k]
  unfold modAt
  generalize rowAt x0 x1 x2 x3 x4 r = u
  pointwise

/-- The first output block is the residual. -/
theorem out9 (y : S1x512x1024.Idx) : out0_9 (F := Ideal) x0 x1 x2 x3 x4 x5 x6 x7 x8 y = rowAt x0 x1 x2 x3 x4 (y 1) (y 2) := by
  unfold out0_9
  canon_tiles x h
  all_goals
    rw [pay2_at, show y 1 = x 1 from Fin.ext h1, show y 2 = x 2 from Fin.ext h2]
    exact pay10_at x0 x1 x2 x3 x4 x5 x6 x7 x8 (x 1) (x 2)

/-- The second output block is the modulated residual. -/
theorem out10 (y : S1x512x1024.Idx) : out0_10 (F := Ideal) x0 x1 x2 x3 x4 x5 x6 x7 x8 y = modAt x0 x1 x2 x3 x4 x5 x6 x7 (y 1) (y 2) := by
  unfold out0_10
  canon_tiles x h
  all_goals
    rw [pay8_at, show y 1 = x 1 from Fin.ext h1, show y 2 = x 2 from Fin.ext h2]
    exact mod_at x0 x1 x2 x3 x4 x5 x6 x7 x8 (x 1) (x 2)

/-- The third output block is the softmax of the scores. -/
theorem out11 (y : S1x512x128.Idx) : out0_11 (F := Ideal) x0 x1 x2 x3 x4 x5 x6 x7 x8 y
    = softRow (score fun n => ∑ k : Fin 1024, modAt x0 x1 x2 x3 x4 x5 x6 x7 (y 1) k * x8 (ix2 k n)) (y 2) := by
  unfold out0_11
  canon_tiles x h
  all_goals
    rw [pay9_at, show y 1 = x 1 from Fin.ext h1, show y 2 = x 2 from Fin.ext h2]
    refine congrArg (fun f => softRow (score f) (x 2)) (funext fun n => Finset.sum_congr rfl fun k _ => congrArg₂ (· * ·) (mod_at x0 x1 x2 x3 x4 x5 x6 x7 x8 (x 1) k) ?_)
    pointwise

end Cert.Kernel4Ideal.RefValue
end
-- ==== Proof.OutProj.Blocks.lean ====
/- The out-projection kernel's blocks at a grid point, entry by entry. -/
module

public import proofs.«01_k».proof.Proof.OutProj.Stores
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen
open Cert.Reference4Ideal.Spec (residual mixed modulated scores modRow)

/-- The output projection as the kernel reads it. -/
theorem flat_out (w : FVec Ideal S1x1024x1024 .f32) (k n : Fin 1024) :
    truncf (F := Ideal) .bf16 (shapeCast S1024x1024 w shapeCasts_S1x1024x1024_S1024x1024) bitsLt_bf16_f32 (ix2 k n) = w (ix3 0 k n) := by
  pointwise

/-- The norm's weight as the kernel reads it. -/
theorem flat_norm (w : FVec Ideal S1x1024 .f32) (n : Fin 1024) :
    shapeCast S1x1024 (shapeCast S1024 w shapeCasts_S1x1024_S1024) shapeCasts_S1024_S1x1024 (ix2 0 n) = w (ix2 0 n) := by
  pointwise

/-- The router's weight as the kernel reads it, in the lanes of the experts. -/
theorem flat_router (w : FVec Ideal S1x1024x16 .f32) (k : Fin 1024) (n : Fin 128) :
    pad S1024x128 ![0, 0] ![0, 112] ![0, 0] (shapeCast S1024x16 w shapeCasts_S1x1024x16_S1024x16) (sitofp (F := Ideal) .f32 (constantI S_ 32 0#32)) pads_S1024x16_S1024x128_000_01120 h_S_ (ix2 k n)
      = if h : n.val < 16 then w (ix3 0 k ⟨n.val, h⟩) else (FloatOps.sitofp FTy.f32 0#32 : Ideal .f32) := by
  pointwise

variable (m : (ℓ : Loc nD τ sig) → Buf (Elt Ideal) ℓ)

/-- Where each window's block lies at a grid point: the sample `t / 8` and the stretch of tokens `t % 8`. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![t.val / 8, 0, 0]
    ∧ win0_5.index t = ![0, 0] ∧ win0_6.index t = ![t.val / 8, 0, 0] ∧ win0_7.index t = ![t.val / 8, 0, 0] ∧ win0_8.index t = ![0, 0]
    ∧ win0_9.index t = ![t.val / 8, t.val % 8, 0] ∧ win0_10.index t = ![t.val / 8, t.val % 8, 0]
    ∧ win0_11.index t = ![t.val / 8, t.val % 8, 0] ∧ t.val / 8 < 4 :=
  (by decide +kernel : ∀ t : Fin grid0.N, _)

/-- The residual of the program's arguments. -/
abbrev stream (c : Dev nD) : FVec Ideal Cert.Reference4Ideal.S4x4096x1024 .f32 :=
  residual (m ((c : Thread nD τ).loc main_arg2)) (m ((c : Thread nD τ).loc main_arg3)) (mixed (m ((c : Thread nD τ).loc main_arg0)) (m ((c : Thread nD τ).loc main_arg1)) (m ((c : Thread nD τ).loc main_arg7)))

/-- The experts' input of the program's arguments. -/
abbrev inputs (c : Dev nD) : FVec Ideal Cert.Reference4Ideal.S4x4096x1024 .f32 :=
  modulated (stream m c) (m ((c : Thread nD τ).loc main_arg4)) (m ((c : Thread nD τ).loc main_arg5)) (m ((c : Thread nD τ).loc main_arg6))

/-- The output projection, as the host lays it out. -/
theorem V_out (c : Dev nD) : V m c main_v3
    = truncf (F := Ideal) .bf16 (shapeCast S1024x1024 (m ((c : Thread nD τ).loc main_arg7)) shapeCasts_S1x1024x1024_S1024x1024) bitsLt_bf16_f32 := by
  unfold V
  simp only [hostOps0, hostOps0_1, hostOps0_2, List.flatten_cons, List.flatten_nil, List.append_nil, List.cons_append, List.nil_append]
  after_results; try rfl

/-- The norm's weight, as the host lays it out. -/
theorem V_norm (c : Dev nD) : V m c main_v5
    = shapeCast S1x1024 (shapeCast S1024 (m ((c : Thread nD τ).loc main_arg4)) shapeCasts_S1x1024_S1024) shapeCasts_S1024_S1x1024 := by
  unfold V
  simp only [hostOps0, hostOps0_1, hostOps0_2, List.flatten_cons, List.flatten_nil, List.append_nil, List.cons_append, List.nil_append]
  after_results; try rfl

/-- The router's weight, as the host pads it. -/
theorem V_router (c : Dev nD) : V m c main_v1
    = pad S1024x128 ![0, 0] ![0, 112] ![0, 0] (shapeCast S1024x16 (m ((c : Thread nD τ).loc main_arg8)) shapeCasts_S1x1024x16_S1024x16) (sitofp (F := Ideal) .f32 (constantI S_ 32 0#32)) pads_S1024x16_S1024x128_000_01120 h_S_ := by
  unfold V
  simp only [hostOps0, hostOps0_1, hostOps0_2, List.flatten_cons, List.flatten_nil, List.append_nil, List.cons_append, List.nil_append]
  after_results; try rfl

/-- The output projection's block, entry by entry. -/
theorem out_at (c : Dev nD) (t : Fin cfg0.N) (k n : Fin 1024) :
    (show FVec Ideal S1024x1024 .bf16 from iblk m c 3 t) (ix2 k n) = m ((c : Thread nD τ).loc main_arg7) (ix3 0 k n) := by
  show V m c main_v3 ((win0_3.blk t).view.emb (ix2 k n)) = _
  have he : (win0_3.blk t).view.emb (ix2 k n) = ix2 k n := by blk_ext [idx t]
  rw [he, V_out]
  exact flat_out _ k n

/-- The norm's block, entry by entry. -/
theorem norm_at (c : Dev nD) (t : Fin cfg0.N) (n : Fin 1024) :
    (show FVec Ideal S1x1024 .f32 from iblk m c 5 t) (ix2 0 n) = m ((c : Thread nD τ).loc main_arg4) (ix2 0 n) := by
  show V m c main_v5 ((win0_5.blk t).view.emb (ix2 0 n)) = _
  have he : (win0_5.blk t).view.emb (ix2 0 n) = ix2 0 n := by blk_ext [idx t]
  rw [he, V_norm]
  exact flat_norm _ n

/-- The router's block, in the lanes of the experts. -/
theorem router_at (c : Dev nD) (t : Fin cfg0.N) (k : Fin 1024) (n : Fin 128) (h : n.val < 16) :
    (show FVec Ideal S1024x128 .f32 from iblk m c 8 t) (ix2 k n)
      = (show FVec Ideal S1x1024x16 .f32 from m ((c : Thread nD τ).loc main_arg8)) (ix3 0 k ⟨n.val, h⟩) := by
  show V m c main_v1 ((win0_8.blk t).view.emb (ix2 k n)) = _
  have he : (win0_8.blk t).view.emb (ix2 k n) = ix2 k n := by blk_ext [idx t]
  rw [he, V_router]
  exact (flat_router _ k n).trans (dif_pos h)

variable (c : Dev nD) (t : Fin cfg0.N) (r : Fin 512) (b : Fin 4) (s : Fin 4096)

/-- The mLSTM's heads at a point. -/
theorem ym_at (k : Fin 512) (hb : (b : ℕ) = t.val / 8) (hs : (s : ℕ) = t.val % 8 * 512 + r) :
    (show FVec Ideal S1x512x512 .bf16 from iblk m c 0 t) (ix3 0 r k) = m ((c : Thread nD τ).loc main_arg0) (ix3 b s k) := by
  show V m c main_arg0 ((win0_0.blk t).view.emb (ix3 0 r k)) = _
  have he : (win0_0.blk t).view.emb (ix3 0 r k) = ix3 b s k := by blk_ext [idx t]
  rw [he, V_main_arg0]

/-- The retention's heads at a point. -/
theorem yr_at (k : Fin 512) (hb : (b : ℕ) = t.val / 8) (hs : (s : ℕ) = t.val % 8 * 512 + r) :
    (show FVec Ideal S1x512x512 .bf16 from iblk m c 1 t) (ix3 0 r k) = m ((c : Thread nD τ).loc main_arg1) (ix3 b s k) := by
  show V m c main_arg1 ((win0_1.blk t).view.emb (ix3 0 r k)) = _
  have he : (win0_1.blk t).view.emb (ix3 0 r k) = ix3 b s k := by blk_ext [idx t]
  rw [he, V_main_arg1]

/-- The stream at a point. -/
theorem x_at (n : Fin 1024) (hb : (b : ℕ) = t.val / 8) (hs : (s : ℕ) = t.val % 8 * 512 + r) :
    (show FVec Ideal S1x512x1024 .f32 from iblk m c 2 t) (ix3 0 r n) = m ((c : Thread nD τ).loc main_arg2) (ix3 b s n) := by
  show V m c main_arg2 ((win0_2.blk t).view.emb (ix3 0 r n)) = _
  have he : (win0_2.blk t).view.emb (ix3 0 r n) = ix3 b s n := by blk_ext [idx t]
  rw [he, V_main_arg2]

/-- The gate at a point. -/
theorem g_at (n : Fin 1024) (hb : (b : ℕ) = t.val / 8) :
    (show FVec Ideal S1x1x1024 .f32 from iblk m c 4 t) (ix3 0 0 n) = m ((c : Thread nD τ).loc main_arg3) (ix3 b 0 n) := by
  show V m c main_arg3 ((win0_4.blk t).view.emb (ix3 0 0 n)) = _
  have he : (win0_4.blk t).view.emb (ix3 0 0 n) = ix3 b 0 n := by blk_ext [idx t]
  rw [he, V_main_arg3]

/-- The shift at a point. -/
theorem sh_at (n : Fin 1024) (hb : (b : ℕ) = t.val / 8) :
    (show FVec Ideal S1x1x1024 .f32 from iblk m c 6 t) (ix3 0 0 n) = m ((c : Thread nD τ).loc main_arg5) (ix3 b 0 n) := by
  show V m c main_arg5 ((win0_6.blk t).view.emb (ix3 0 0 n)) = _
  have he : (win0_6.blk t).view.emb (ix3 0 0 n) = ix3 b 0 n := by blk_ext [idx t]
  rw [he, V_main_arg5]

/-- The scale at a point. -/
theorem sc_at (n : Fin 1024) (hb : (b : ℕ) = t.val / 8) :
    (show FVec Ideal S1x1x1024 .f32 from iblk m c 7 t) (ix3 0 0 n) = m ((c : Thread nD τ).loc main_arg6) (ix3 b 0 n) := by
  show V m c main_arg6 ((win0_7.blk t).view.emb (ix3 0 0 n)) = _
  have he : (win0_7.blk t).view.emb (ix3 0 0 n) = ix3 b 0 n := by blk_ext [idx t]
  rw [he, V_main_arg6]

/-- A point's residual row is the reference's. -/
theorem row_at (hb : (b : ℕ) = t.val / 8) (hs : (s : ℕ) = t.val % 8 * 512 + r) (n : Fin 1024) :
    rowAt (iblk m c 0 t) (iblk m c 1 t) (iblk m c 2 t) (iblk m c 3 t) (iblk m c 4 t) r n = stream m c (ix3 b s n) := by
  refine Eq.trans ?_ (Cert.Reference4Ideal.Spec.residual_at _ _ _ b s n).symm
  refine congrArg₂ (· + ·) (x_at m c t r b s n hb hs) (congrArg₂ (· * ·) (g_at m c t b n hb) ?_)
  refine Eq.trans ?_ (Cert.Reference4Ideal.Spec.mixed_at _ _ _ b s n).symm
  refine congrArg₂ (· + ·) (Finset.sum_congr rfl fun k _ => ?_) (Finset.sum_congr rfl fun k _ => ?_)
  · exact congrArg₂ (· * ·) (ym_at m c t r b s k hb hs) (out_at m c t _ n)
  · exact congrArg₂ (· * ·) (yr_at m c t r b s k hb hs) (out_at m c t _ n)

/-- A point's modulated row is the reference's. -/
theorem input_at (hb : (b : ℕ) = t.val / 8) (hs : (s : ℕ) = t.val % 8 * 512 + r) (n : Fin 1024) :
    modAt (iblk m c 0 t) (iblk m c 1 t) (iblk m c 2 t) (iblk m c 3 t) (iblk m c 4 t) (iblk m c 5 t) (iblk m c 6 t) (iblk m c 7 t) r n
      = inputs m c (ix3 b s n) := by
  refine Eq.trans ?_ (Cert.Reference4Ideal.Spec.modulated_at _ _ _ _ b s n).symm
  have hu : rowAt (iblk m c 0 t) (iblk m c 1 t) (iblk m c 2 t) (iblk m c 3 t) (iblk m c 4 t) r = fun k => stream m c (ix3 b s k) :=
    funext (row_at m c t r b s hb hs)
  have hw : (fun k => (show FVec Ideal S1x1024 .f32 from iblk m c 5 t) (ix2 0 k)) = fun k => m ((c : Thread nD τ).loc main_arg4) (ix2 0 k) :=
    funext (norm_at m c t)
  have hh : (fun k => (show FVec Ideal S1x1x1024 .f32 from iblk m c 6 t) (ix3 0 0 k)) = fun k => m ((c : Thread nD τ).loc main_arg5) (ix3 b 0 k) :=
    funext fun k => sh_at m c t b k hb
  have hc : (fun k => (show FVec Ideal S1x1x1024 .f32 from iblk m c 7 t) (ix3 0 0 k)) = fun k => m ((c : Thread nD τ).loc main_arg6) (ix3 b 0 k) :=
    funext fun k => sc_at m c t b k hb
  exact (congrArg₂ (fun u w => modRow u w _ _ n) hu hw).trans (congrArg₂ (fun h e => modRow _ _ h e n) hh hc)

/-- A point's scores are the reference's. -/
theorem score_at (hb : (b : ℕ) = t.val / 8) (hs : (s : ℕ) = t.val % 8 * 512 + r) (n : Fin 128) :
    score (fun n => ∑ k : Fin 1024, modAt (iblk m c 0 t) (iblk m c 1 t) (iblk m c 2 t) (iblk m c 3 t) (iblk m c 4 t) (iblk m c 5 t) (iblk m c 6 t) (iblk m c 7 t) r k
        * (show FVec Ideal S1024x128 .f32 from iblk m c 8 t) (ix2 k n)) n
      = scores (inputs m c) (m ((c : Thread nD τ).loc main_arg8)) (ix3 b s n) := by
  refine Eq.trans ?_ (Cert.Reference4Ideal.Spec.scores_at _ _ b s n).symm
  by_cases h : n.val < 16
  · rw [dif_pos h]
    refine (if_pos h).trans (Finset.sum_congr rfl fun k _ => ?_)
    exact congrArg₂ (· * ·) (input_at m c t r b s hb hs k) (router_at m c t k n h)
  · rw [dif_neg h]
    exact if_neg h

end Cert.Kernel4Ideal.RefValue
end
-- ==== Proof.OutProj.Final.lean ====
/- The out-projection kernel's three results are the reference's. -/
module

public import proofs.«01_k».proof.Proof.OutProj.Blocks
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen
open Cert.Reference4Ideal.Spec (scores softmax softRow)

variable (m : (ℓ : Loc nD τ sig) → Buf (Elt Ideal) ℓ)

/-- The first result is the residual. -/
theorem final9 (c : Dev nD) : (dats m 0 c).arrAt 9 cfg0.N = stream m c := by
  refine (dats m 0 c).arrAt_eq_of_covers 9 _ (by decide +kernel) fun t _ y => ?_
  blk_simp
  rw [after0_9]
  refine (out9 _ _ _ _ _ _ _ _ _ y).trans ?_
  obtain ⟨b, s, n, hj, hb, hs, hn⟩ : ∃ (b : Fin 4) (s : Fin 4096) (n : Fin 1024), (win0_9.blk t).view.emb y = ix3 b s n
      ∧ (b : ℕ) = t.val / 8 ∧ (s : ℕ) = t.val % 8 * 512 + y 1 ∧ n = y 2 := by
    refine ⟨(win0_9.blk t).view.emb y 0, (win0_9.blk t).view.emb y 1, (win0_9.blk t).view.emb y 2, by blk_ext, ?_, ?_, Fin.ext ?_⟩
    all_goals (blk_simp [idx t] <;> try omega)
  subst hn
  rw [hj]
  exact row_at m c t (y 1) b s hb hs (y 2)
/-- The second result is the experts' input. -/
theorem final10 (c : Dev nD) : (dats m 0 c).arrAt 10 cfg0.N = truncf (F := Ideal) .bf16 (inputs m c) Cert.Reference4Ideal.Gen.bitsLt_bf16_f32 := by
  refine (dats m 0 c).arrAt_eq_of_covers 10 _ (by decide +kernel) fun t _ y => ?_
  blk_simp
  rw [after0_10]
  refine (out10 _ _ _ _ _ _ _ _ _ y).trans ?_
  obtain ⟨b, s, n, hj, hb, hs, hn⟩ : ∃ (b : Fin 4) (s : Fin 4096) (n : Fin 1024), (win0_10.blk t).view.emb y = ix3 b s n
      ∧ (b : ℕ) = t.val / 8 ∧ (s : ℕ) = t.val % 8 * 512 + y 1 ∧ n = y 2 := by
    refine ⟨(win0_10.blk t).view.emb y 0, (win0_10.blk t).view.emb y 1, (win0_10.blk t).view.emb y 2, by blk_ext, ?_, ?_, Fin.ext ?_⟩
    all_goals (blk_simp [idx t] <;> try omega)
  subst hn
  rw [hj]
  exact input_at m c t (y 1) b s hb hs (y 2)
/-- The third result is the router's softmax. -/
theorem final11 (c : Dev nD) : (dats m 0 c).arrAt 11 cfg0.N = softmax (scores (inputs m c) (m ((c : Thread nD τ).loc main_arg8))) := by
  refine (dats m 0 c).arrAt_eq_of_covers 11 _ (by decide +kernel) fun t _ y => ?_
  blk_simp
  rw [after0_11]
  refine (out11 _ _ _ _ _ _ _ _ _ y).trans ?_
  obtain ⟨b, s, n, hj, hb, hs, hn⟩ : ∃ (b : Fin 4) (s : Fin 4096) (n : Fin 128), (win0_11.blk t).view.emb y = ix3 b s n
      ∧ (b : ℕ) = t.val / 8 ∧ (s : ℕ) = t.val % 8 * 512 + y 1 ∧ n = y 2 := by
    refine ⟨(win0_11.blk t).view.emb y 0, (win0_11.blk t).view.emb y 1, (win0_11.blk t).view.emb y 2, by blk_ext, ?_, ?_, Fin.ext ?_⟩
    all_goals (blk_simp [idx t] <;> try omega)
  subst hn
  rw [hj]
  refine Eq.trans ?_ (Cert.Reference4Ideal.Spec.softmax_at _ b s (y 2)).symm
  exact congrArg (fun q => softRow q (y 2)) (funext (score_at m c t (y 1) b s hb hs))

end Cert.Kernel4Ideal.RefValue
end
-- ==== Proof.OutProj.Pair.lean ====
/- The out-projection kernel and its reference end with the same three results. -/
module

public import proofs.«01_k».proof.Defs
public import proofs.«01_k».proof.Proof.OutProj.Final
public import Idealize.ShloMosaic.Lib.Claim

@[expose] public section

set_option maxRecDepth 16384

noncomputable section

open Idealize.ShloMosaic Idealize.ShloMosaic.TcCoe Idealize.SL.Sem

namespace Cert.Proof

/-- From equal arguments the reference's residual is the kernel's. -/
theorem stream_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) :
    Cert.Reference4Ideal.Spec.stream m' c = Cert.Kernel4Ideal.RefValue.stream m c := by
  unfold Cert.Reference4Ideal.Spec.stream
  rw [h0, h1, h2, h3, h7]

/-- From equal arguments the reference's experts' input is the kernel's. -/
theorem inputs_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) :
    Cert.Reference4Ideal.Spec.inputs m' c = Cert.Kernel4Ideal.RefValue.inputs m c := by
  unfold Cert.Reference4Ideal.Spec.inputs
  rw [stream_eq m m' c h0 h1 h2 h3 h7, h4, h5, h6]

/-- The out-projection kernel and its reference end with the same three result arrays. -/
theorem outproj_algebraic : Cert.algebraic_Kernel4Ideal_Reference4Ideal := by
  intro m g m' g' _ ha
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 11 Cert.Kernel4Ideal.cfg0.N, ?_, ?_⟩
  · exact Cert.Kernel4Ideal.Value.run_blocks m g
  · refine (θ_run Cert.Reference4Ideal.defs _ _).mono (fun r h c => ?_) (Cert.Reference4Ideal.Value.run (F := Ideal) m' g')
    obtain ⟨h0, h1, h2, h3, h4, h5, h6, h7, h8⟩ := ha c
    have hi := inputs_eq m m' c h0 h1 h2 h3 h4 h5 h6 h7
    refine ⟨(h c).1.trans ?_, (h c).2.1.trans ?_, (h c).2.2.1.trans ?_, (h c).2.2.2⟩
    · exact (stream_eq m m' c h0 h1 h2 h3 h7).trans (Cert.Kernel4Ideal.RefValue.final9 m c).symm
    · exact (congrArg (fun u => truncf (F := Ideal) .bf16 u Cert.Reference4Ideal.Gen.bitsLt_bf16_f32) hi).trans (Cert.Kernel4Ideal.RefValue.final10 m c).symm
    · exact (Cert.Reference4Ideal.Spec.res2 m' c).trans
        ((congrArg₂ (fun u w => Cert.Reference4Ideal.Spec.softmax (Cert.Reference4Ideal.Spec.scores u w)) hi h8).trans (Cert.Kernel4Ideal.RefValue.final11 m c).symm)

/-- The out-projection's reference leaves its arguments as they were and its semaphores at zero. -/
theorem frame_reference4 : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run (F := Ideal) m g)

end Cert.Proof
end
-- ==== Proof.Combine.Spec.lean ====
/- The combination's reference, written as a few named functions of its arguments, and these functions entry by entry. -/
module

public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Reference5Ideal.Spec

open Cert.Reference5Ideal Cert.Reference5Ideal.Gen Idealize.ShloMosaic Idealize.ShloMosaic.TcCoe Idealize.SL.Sem Idealize.ShloMosaic.StableHlo

/-- Every place brought into the range of an expert's slots. -/
def clipped (p : IVec S4x16x4096 32) : IVec S4x16x4096 32 :=
  minsi (broadcastInDim S4x16x4096 ![] bcast_S_S4x16x4096 (id (constantI S_ 32 511#32))) (maxsi (broadcastInDim S4x16x4096 ![] bcast_S_S4x16x4096 (id (constantI S_ 32 0#32))) p)

/-- A place below zero counted from the end of the slots. -/
def wrapped (q : IVec S4x16x4096 32) : IVec S4x16x4096 32 :=
  select (cmpi .slt q (broadcastInDim S4x16x4096 ![] bcast_S_S4x16x4096 (constantI S_ 32 0#32))) (addi q (broadcastInDim S4x16x4096 ![] bcast_S_S4x16x4096 (constantI S_ 32 512#32))) q

/-- Whether a place is one of the expert's slots. -/
def placed (p : IVec S4x16x4096 32) : IVec S4x16x4096 1 :=
  andi (cmpi .sge p (broadcastInDim S4x16x4096 ![] bcast_S_S4x16x4096 (constantI S_ 32 0#32))) (cmpi .slt p (broadcastInDim S4x16x4096 ![] bcast_S_S4x16x4096 (constantI S_ 32 512#32)))

/-- The experts' rows with the sample first. -/
def rows (y : FVec Ideal S16x4x512x1024 .bf16) : FVec Ideal S4x16x512x1024 .f32 :=
  extf .f32 (transpose S4x16x512x1024 [1, 0, 2, 3] y transposes_S16x4x512x1024_S4x16x512x1024_1_0_2_3) bitsLt_bf16_f32

/-- For each sample, expert and token the expert's row at the token's place. -/
def fetched (y : FVec Ideal S4x16x512x1024 .f32) (q : IVec S4x16x4096 32) : FVec Ideal S4x16x4096x1024 .f32 :=
  Host.gather gather_S4x16x512x1024_S4x16x4096x1_S4x16x4096x1024_3_2_01_01_2_3_1111024 y (broadcastInDim S4x16x4096x1 ![0, 1, 2] bcast_S4x16x4096_S4x16x4096x1_0_1_2 q)

/-- The rows of the tokens that have a slot, zero for the others. -/
def kept (v : IVec S4x16x4096 1) (z : FVec Ideal S4x16x4096x1024 .f32) : FVec Ideal S4x16x4096x1024 .f32 :=
  select (broadcastInDim S4x16x4096x1024 ![0, 1, 2, 3] bcast_S4x16x4096x1_S4x16x4096x1024_0_1_2_3 (broadcastInDim S4x16x4096x1 ![0, 1, 2] bcast_S4x16x4096_S4x16x4096x1_0_1_2 v)) z (broadcastInDim S4x16x4096x1024 ![] bcast_S_S4x16x4096x1024 (sitofp .f32 (constantI S_ 32 0#32)))

/-- The sum over the experts. -/
def total (z : FVec Ideal S4x16x4096x1024 .f32) : FVec Ideal S4x4096x1024 .f32 :=
  Host.reduceAdd z (constant S_ .f32 0x00000000#32) reducesTo_S4x16x4096x1024_S4x4096x1024_d1 h_S_

/-- The gated residual. -/
def residual (x : FVec Ideal S4x4096x1024 .f32) (g : FVec Ideal S4x1x1024 .f32) (y : FVec Ideal S4x4096x1024 .f32) : FVec Ideal S4x4096x1024 .f32 :=
  addf x (mulf (broadcastInDim S4x4096x1024 ![0, 1, 2] bcast_S4x1x1024_S4x4096x1024_0_1_2 g) y)

/-- A row under its root mean square, times the norm's weight. -/
def normed (x : FVec Ideal S4x4096x1024 .f32) (w : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 w))

/-- The experts' contribution to every token. -/
def combined (y : FVec Ideal S16x4x512x1024 .bf16) (p : IVec S4x16x4096 32) : FVec Ideal S4x4096x1024 .f32 :=
  total (kept (placed p) (fetched (rows y) (wrapped (clipped p))))

/-- The reference's result is the norm of the residual with the combined experts. -/
theorem res_eq (m : (ℓ : Loc nD τ sig) → Buf (Elt Ideal) ℓ) (c : Dev nD) : Value.res_main_v33 m c
    = normed (residual (m ((c.tc : Thread nD τ).loc main_arg2)) (m ((c.tc : Thread nD τ).loc main_arg3)) (combined (m ((c.tc : Thread nD τ).loc main_arg0)) (m ((c.tc : Thread nD τ).loc main_arg1)))) (m ((c.tc : Thread nD τ).loc main_arg4)) := rfl

/-! ## Entry by entry -/

/-- A clipped place. -/
theorem clipped_at (p : IVec S4x16x4096 32) (b : Fin 4) (e : Fin 16) (s : Fin 4096) :
    clipped p (ix3 b e s) = IntOp.minsi 511#32 (IntOp.maxsi 0#32 (p (ix3 b e s))) := by
  pointwise [clipped]
  rfl

/-- A wrapped place. -/
theorem wrapped_at (q : IVec S4x16x4096 32) (b : Fin 4) (e : Fin 16) (s : Fin 4096) :
    wrapped q (ix3 b e s) = Scalar.select (IntOp.cmpi .slt (q (ix3 b e s)) 0#32) (IntOp.addi (q (ix3 b e s)) 512#32) (q (ix3 b e s)) := by
  pointwise [wrapped]

/-- Whether one place is a slot. -/
theorem placed_at (p : IVec S4x16x4096 32) (b : Fin 4) (e : Fin 16) (s : Fin 4096) :
    placed p (ix3 b e s) = IntOp.andi (IntOp.cmpi .sge (p (ix3 b e s)) 0#32) (IntOp.cmpi .slt (p (ix3 b e s)) 512#32) := by
  pointwise [placed]

/-- One entry of the experts' rows. -/
theorem rows_at (y : FVec Ideal S16x4x512x1024 .bf16) (b : Fin 4) (e : Fin 16) (j : Fin 512) (n : Fin 1024) :
    rows y (ix4 b e j n) = y (ix4 e b j n) := by
  pointwise [rows]

/-- One kept entry. -/
theorem kept_at (v : IVec S4x16x4096 1) (z : FVec Ideal S4x16x4096x1024 .f32) (b : Fin 4) (e : Fin 16) (s : Fin 4096) (n : Fin 1024) :
    kept v z (ix4 b e s n) = Scalar.select (v (ix3 b e s)) (z (ix4 b e s n)) (FloatOps.sitofp FTy.f32 0#32 : Ideal .f32) := by
  pointwise [kept]

/-- One sum over the experts. -/
theorem total_at (z : FVec Ideal S4x16x4096x1024 .f32) (b : Fin 4) (s : Fin 4096) (n : Fin 1024) :
    total z (ix3 b s n) = ∑ e : Fin 16, z (ix4 b e s n) := by
  pointwise [total]

/-- The residual's entry. -/
theorem residual_at (x : FVec Ideal S4x4096x1024 .f32) (g : FVec Ideal S4x1x1024 .f32) (y : FVec Ideal S4x4096x1024 .f32) (b : Fin 4) (s : Fin 4096) (n : Fin 1024) :
    residual x g y (ix3 b s n) = x (ix3 b s n) + g (ix3 b 0 n) * y (ix3 b s n) := by
  pointwise [residual]

/-- The norm of a row. -/
abbrev normRow (u w : Fin 1024 → EReal) (n : Fin 1024) : EReal :=
  u n * Ideal.rsqrt (Ideal.div (∑ k : Fin 1024, u k * u k) (Ideal.ofBits .f32 0x44800000#32) + Ideal.ofBits .f32 0x358637BD#32) * w n

/-- The norm's entry. -/
theorem normed_at (x : FVec Ideal S4x4096x1024 .f32) (w : FVec Ideal S1024 .f32) (b : Fin 4) (s : Fin 4096) (n : Fin 1024) :
    normed x w (ix3 b s n) = normRow (fun k => x (ix3 b s k)) (fun k => w (ix1 k)) n := by
  pointwise [normed]

end Cert.Reference5Ideal.Spec
end
-- ==== Proof.Combine.Gather.lean ====
/- What the reference's fetching of an expert's row by a token's place gives, entry by entry. -/
module

public import proofs.«01_k».proof.Proof.Combine.Spec
public import Idealize.ShloMosaic.Lib.Pointwise
public import Idealize.ShloMosaic.Lib.Pipeline.ValueKit

@[expose] public section

set_option maxRecDepth 16384

noncomputable section

namespace Cert.Reference5Ideal.Spec

open Cert.Reference5Ideal Cert.Reference5Ideal.Gen Idealize.ShloMosaic Idealize.ShloMosaic.TcCoe Idealize.SL.Sem Idealize.ShloMosaic.StableHlo

/-- An entry of a list of slots at a place, zero where the place is none of them. -/
def picked (p : BitVec 32) (y : Fin 512 → EReal) : EReal := if h : p.toNat < 512 then y ⟨p.toNat, h⟩ else 0

/-- A number below 512 read with its sign. -/
theorem toInt_low (p : BitVec 32) (h : p.toNat < 512) : p.toInt = (p.toNat : Int) := by
  rw [BitVec.toInt_eq_toNat_cond]; omega

/-- A number that is not below 512 is negative or at least 512 when read with its sign. -/
theorem toInt_high (p : BitVec 32) (h : ¬ p.toNat < 512) : p.toInt < 0 ∨ 512 ≤ p.toInt := by
  rw [BitVec.toInt_eq_toNat_cond]; have := p.isLt; omega

/-- A place that is a slot passes the test. -/
theorem test_low (p : BitVec 32) (h : p.toNat < 512) : IntOp.andi (IntOp.cmpi .sge p 0#32) (IntOp.cmpi .slt p 512#32) = 1#1 := by
  have e := toInt_low p h
  have h0 : (0 : Int) ≤ p.toInt := by omega
  have h1 : p.toInt < 512 := by omega
  simp [IntOp.andi, IntOp.cmpi, BitVec.sle_eq_decide, BitVec.slt_eq_decide, h0, h1]

/-- A place that is no slot fails the test. -/
theorem test_high (p : BitVec 32) (h : ¬ p.toNat < 512) : IntOp.andi (IntOp.cmpi .sge p 0#32) (IntOp.cmpi .slt p 512#32) = 0#1 := by
  rcases toInt_high p h with e | e
  · have h0 : ¬ (0 : Int) ≤ p.toInt := by omega
    simp [IntOp.andi, IntOp.cmpi, BitVec.sle_eq_decide, BitVec.slt_eq_decide, h0]
  · have h0 : ¬ p.toInt < 512 := by omega
    simp [IntOp.andi, IntOp.cmpi, BitVec.sle_eq_decide, BitVec.slt_eq_decide, h0]

/-- Clipping leaves a slot as it is. -/
theorem clip_low (p : BitVec 32) (h : p.toNat < 512) : IntOp.minsi 511#32 (IntOp.maxsi 0#32 p) = p := by
  have e := toInt_low p h
  have h1 : IntOp.maxsi 0#32 p = p := by
    unfold IntOp.maxsi
    rw [if_neg]
    simp [BitVec.slt_eq_decide, e]
  rw [h1]
  unfold IntOp.minsi
  rw [if_neg]
  simp [BitVec.slt_eq_decide, e]
  omega

/-- Wrapping leaves a slot as it is. -/
theorem wrap_low (p : BitVec 32) (h : p.toNat < 512) : Scalar.select (IntOp.cmpi .slt p 0#32) (IntOp.addi p 512#32) p = p := by
  have e := toInt_low p h
  have h0 : ¬ p.toInt < 0 := by omega
  have h1 : IntOp.cmpi .slt p 0#32 = 0#1 := by
    simp [IntOp.cmpi, BitVec.slt_eq_decide, h0]
  rw [h1]
  rfl

/-- The fetching read at an index: the row at the place, read with its sign and brought into the slots. -/
theorem gather_at (y : FVec Ideal S4x16x512x1024 .f32) (q : IVec S4x16x4096x1 32) (b : Fin 4) (e : Fin 16) (s : Fin 4096) (n : Fin 1024) :
    Host.gather gather_S4x16x512x1024_S4x16x4096x1_S4x16x4096x1024_3_2_01_01_2_3_1111024 y q (ix4 b e s n)
      = y (ix4 b e ⟨min (q (ix4 b e s 0)).toInt.toNat 511, by omega⟩ n) := by
  let d := gather_S4x16x512x1024_S4x16x4096x1_S4x16x4096x1024_3_2_01_01_2_3_1111024
  unfold Host.gather
  congr 1
  funext a
  refine Fin.ext ?_
  show d.start (ix4 b e s n) q a + d.batchCoord (ix4 b e s n) a + d.offCoord (ix4 b e s n) a = _
  have hoff : ∀ a : Fin 4, a ∈ d.operandBatchingDims → d.offCoord (ix4 b e s n) a = 0 := fun a ha =>
    d.offCoord_eq_zero _ _ fun h => ((d.mem_sKept _).mp h).2 ha
  have h0 : (0 : Fin 4) ∈ d.operandBatchingDims := by show (0 : Fin 4) ∈ [0, 1]; decide
  have h1 : (1 : Fin 4) ∈ d.operandBatchingDims := by show (1 : Fin 4) ∈ [0, 1]; decide
  have h2 : (2 : Fin 4) ∉ d.operandBatchingDims := by show (2 : Fin 4) ∉ [0, 1]; decide
  have h3 : (3 : Fin 4) ∉ d.operandBatchingDims := by show (3 : Fin 4) ∉ [0, 1]; decide
  have c2 : (2 : Fin 4) ∈ d.collapsedSliceDims := by show (2 : Fin 4) ∈ [2]; decide
  have m2 : (2 : Fin 4) ∈ d.startIndexMap := by show (2 : Fin 4) ∈ [2]; decide
  have m3 : (3 : Fin 4) ∉ d.startIndexMap := by show (3 : Fin 4) ∉ [2]; decide
  have k3 : (3 : Fin 4) ∈ d.sKept := (d.mem_sKept _).mpr ⟨by show (3 : Fin 4) ∉ [2]; decide, h3⟩
  match a with
  | ⟨0, _⟩ =>
    rw [show (⟨0, _⟩ : Fin 4) = 0 from rfl, d.start_batching _ _ _ h0, hoff 0 h0]
    unfold GatherDims.batchCoord
    rw [dif_pos h0]
    simp only [Nat.zero_add, Nat.add_zero]
    rfl
  | ⟨1, _⟩ =>
    rw [show (⟨1, _⟩ : Fin 4) = 1 from rfl, d.start_batching _ _ _ h1, hoff 1 h1]
    unfold GatherDims.batchCoord
    rw [dif_pos h1]
    simp only [Nat.zero_add, Nat.add_zero]
    rfl
  | ⟨2, _⟩ =>
    rw [show (⟨2, _⟩ : Fin 4) = 2 from rfl, d.batchCoord_eq_zero _ _ h2, d.offCoord_eq_zero _ _ fun h => ((d.mem_sKept _).mp h).1 c2]
    unfold GatherDims.start
    rw [dif_pos m2]
    have hsi : d.siIdx (ix4 b e s n) ⟨d.startIndexMap.idxOf 2, List.idxOf_lt_length_iff.2 m2⟩ = ix4 b e s 0 := by
      funext z; refine Fin.ext ?_
      match z with
      | ⟨0, _⟩ => rfl
      | ⟨1, _⟩ => rfl
      | ⟨2, _⟩ => rfl
      | ⟨3, _⟩ => rfl
    rw [hsi]
    rfl
  | ⟨3, _⟩ =>
    rw [show (⟨3, _⟩ : Fin 4) = 3 from rfl, d.batchCoord_eq_zero _ _ h3]
    unfold GatherDims.start GatherDims.offCoord
    rw [dif_neg m3, dif_pos k3]
    simp only [Nat.zero_add, Nat.add_zero]
    rfl

/-- The places as start indices. -/
theorem starts_at (q : IVec S4x16x4096 32) (b : Fin 4) (e : Fin 16) (s : Fin 4096) :
    broadcastInDim S4x16x4096x1 ![0, 1, 2] bcast_S4x16x4096_S4x16x4096x1_0_1_2 q (ix4 b e s 0) = q (ix3 b e s) := by
  pointwise

/-- One expert's kept entry for a token is the expert's entry at the token's place. -/
theorem entry_at (y : FVec Ideal S16x4x512x1024 .bf16) (p : IVec S4x16x4096 32) (b : Fin 4) (e : Fin 16) (s : Fin 4096) (n : Fin 1024) :
    kept (placed p) (fetched (rows y) (wrapped (clipped p))) (ix4 b e s n) = picked (p (ix3 b e s)) fun j => y (ix4 e b j n) := by
  rw [kept_at, placed_at]
  unfold picked
  by_cases h : (p (ix3 b e s)).toNat < 512
  · rw [dif_pos h, test_low _ h]
    refine Eq.trans (show Scalar.select 1#1 _ _ = fetched (rows y) (wrapped (clipped p)) (ix4 b e s n) from rfl) ?_
    refine (gather_at (rows y) _ b e s n).trans ?_
    rw [rows_at]
    refine congrArg (fun j => y (ix4 e b j n)) (Fin.ext ?_)
    show min _ 511 = _
    rw [starts_at, wrapped_at, clipped_at, clip_low _ h, wrap_low _ h, toInt_low _ h]
    simp only [Int.toNat_natCast]
    omega
  · rw [dif_neg h, test_high _ h]
    refine Eq.trans (show Scalar.select 0#1 _ _ = (FloatOps.sitofp FTy.f32 0#32 : Ideal .f32) from rfl) ?_
    simp [FloatOps.sitofp]

/-- The combined experts' entry is the sum over the experts of their entries at the token's places. -/
theorem combined_at (y : FVec Ideal S16x4x512x1024 .bf16) (p : IVec S4x16x4096 32) (b : Fin 4) (s : Fin 4096) (n : Fin 1024) :
    combined y p (ix3 b s n) = ∑ e : Fin 16, picked (p (ix3 b e s)) fun j => y (ix4 e b j n) := by
  unfold combined
  rw [total_at]
  exact Finset.sum_congr rfl fun e _ => entry_at y p b e s n

end Cert.Reference5Ideal.Spec
end
-- ==== Proof.Combine.Payloads.lean ====
/- What the combination kernel computes from its blocks, entry by entry, for any blocks. -/
module

public import proofs.«01_k».proof.Proof.Gen.Kernel5Ideal.Value
public import proofs.«01_k».proof.Proof.Combine.Gather
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen
open Cert.Reference5Ideal.Spec (picked normRow)

/-- One where a token's place is the slot, zero elsewhere. -/
def hits (p : IVec S512x1 32) : FVec Ideal S512x512 .f32 :=
  sitofp .f32 (extui 32 (cmpi .eq (broadcastTo S512x512 p broadcasts_S512x1_S512x512) (iota .tc S512x512 32 [1] iota_S512x512_d1_w32)) natLt_1_32)

/-- The running sum with one more expert's rows. -/
def step (a : FVec Ideal S512x1024 .f32) (h : FVec Ideal S512x512 .f32) (y : Vec Ideal S1x1x512x1024 .bf16) : FVec Ideal S512x1024 .f32 :=
  addf a (matmul dot_S512x512_S512x1024_S512x1024_1_0_0_1_n_n none (truncf .bf16 h bitsLt_bf16_f32) (show FVec Ideal S512x1024 .bf16 from shapeCast S512x1024 y shapeCasts_S1x1x512x1024_S512x1024) (constant S512x1024 .f32 0x00000000#32))

/-- The residual. -/
def gated (a : FVec Ideal S512x1024 .f32) (x : Vec Ideal S1x512x1024 .f32) (g : Vec Ideal S1x1x1024 .f32) : FVec Ideal S512x1024 .f32 :=
  addf (shapeCast S512x1024 x shapeCasts_S1x512x1024_S512x1024) (mulf (broadcastTo S512x1024 (shapeCast S1x1024 g shapeCasts_S1x1x1024_S1x1024) broadcasts_S1x1024_S512x1024) a)

/-- The norm of the rows. -/
def scaled (u : FVec Ideal S512x1024 .f32) (w : Vec Ideal S1x1024 .f32) : FVec Ideal S1x512x1024 .f32 :=
  shapeCast S1x512x1024 (mulf (mulf u (broadcastTo S512x1024 (rsqrt (addf (divf (shapeCast S512x1 (multiReduction .add [1] S512 (mulf u u) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 w shapeCasts_S1x1024_S1x1024) broadcasts_S1x1024_S512x1024)) shapeCasts_S512x1024_S1x512x1024

/-- The sum's start. -/
def nothing : FVec Ideal S512x1024 .f32 := broadcast S512x1024 (Scalar.ofBits .f32 0x00000000#32)

/-- The places of one expert's tokens. -/
abbrev col (p : IVec S512x16 32) (e : Nat) (h : S512x16.Slices ![0, e] S512x1) : IVec S512x1 32 := extractStridedSlice S512x1 ![0, e] p h

/-- The last step, the residual and the norm. -/
theorem pay1_eq (a : FVec Ideal S512x1024 .f32) (h : FVec Ideal S512x512 .f32) (y : Vec Ideal S1x1x512x1024 .bf16) (x : Vec Ideal S1x512x1024 .f32) (g : Vec Ideal S1x1x1024 .f32) (w : Vec Ideal S1x1024 .f32) :
    k0_pay1 (F := Ideal) a h y x g w = scaled (gated (step a h y) x g) w := rfl

/-- A slot's hit as a number. -/
abbrev hit (p : BitVec 32) (j : Fin 512) : EReal := (FloatOps.sitofp FTy.f32 ((IntOp.cmpi .eq p (BitVec.ofNat 32 j.val)).setWidth 32) : Ideal .f32)

/-- One hit. -/
theorem hits_at (p : IVec S512x1 32) (r j : Fin 512) : hits p (ix2 r j) = hit (p (ix2 r 0)) j := by
  pointwise [hits]

/-- One step. -/
theorem step_at (a : FVec Ideal S512x1024 .f32) (h : FVec Ideal S512x512 .f32) (y : Vec Ideal S1x1x512x1024 .bf16) (r : Fin 512) (n : Fin 1024) :
    step a h y (ix2 r n) = a (ix2 r n) + ∑ j : Fin 512, h (ix2 r j) * y (ix4 0 0 j n) := by
  pointwise [step]

/-- The residual's entry. -/
theorem gated_at (a : FVec Ideal S512x1024 .f32) (x : Vec Ideal S1x512x1024 .f32) (g : Vec Ideal S1x1x1024 .f32) (r : Fin 512) (n : Fin 1024) :
    gated a x g (ix2 r n) = x (ix3 0 r n) + g (ix3 0 0 n) * a (ix2 r n) := by
  pointwise [gated]

/-- The norm's entry. -/
theorem scaled_at (u : FVec Ideal S512x1024 .f32) (w : Vec Ideal S1x1024 .f32) (i : S1x512x1024.Idx) :
    scaled u w i = normRow (fun k => u (ix2 (i 1) k)) (fun k => w (ix2 0 k)) (i 2) := by
  pointwise [scaled]

/-- The sum starts from zero. -/
theorem nothing_at (r : Fin 512) (n : Fin 1024) : nothing (ix2 r n) = 0 := by
  pointwise [nothing]

/-- A hit at the slot itself is one. -/
theorem hit_self (p : BitVec 32) (j : Fin 512) (h : p.toNat = j.val) : hit p j = 1 := by
  have hp : p = BitVec.ofNat 32 j.val := by rw [← h]; simp
  subst hp
  simp [hit, IntOp.cmpi, FloatOps.sitofp]

/-- A hit elsewhere is zero. -/
theorem hit_other (p : BitVec 32) (j : Fin 512) (h : p.toNat ≠ j.val) : hit p j = 0 := by
  have hp : p ≠ BitVec.ofNat 32 j.val := by
    intro e; apply h; rw [e, BitVec.toNat_ofNat]; omega
  have hb : (p == BitVec.ofNat 32 j.val) = false := beq_eq_false_iff_ne.mpr hp
  simp [hit, IntOp.cmpi, FloatOps.sitofp, hb]

/-- The sum of the hits times the slots' entries is the entry at the place. -/
theorem hit_sum (p : BitVec 32) (y : Fin 512 → EReal) : (∑ j : Fin 512, hit p j * y j) = picked p y := by
  unfold picked
  by_cases h : p.toNat < 512
  · rw [dif_pos h, Finset.sum_eq_single (⟨p.toNat, h⟩ : Fin 512)]
    · rw [hit_self p _ rfl, one_mul]
    · intro j _ hj
      rw [hit_other p j (fun e => hj (Fin.ext e.symm)), zero_mul]
    · intro hj; exact absurd (Finset.mem_univ _) hj
  · rw [dif_neg h]
    refine Finset.sum_eq_zero fun j _ => ?_
    rw [hit_other p j (fun e => h (by omega)), zero_mul]

/-- One expert's places. -/
theorem col_at (p : IVec S512x16 32) (e : Fin 16) (h : S512x16.Slices ![0, e.val] S512x1) (r : Fin 512) :
    col p e.val h (ix2 r 0) = p (ix2 r e) := by
  unfold col
  pointwise

/-- One step with an expert's places adds the expert's entry at the token's place. -/
theorem add_at (a : FVec Ideal S512x1024 .f32) (p : IVec S512x16 32) (e : Fin 16) (h : S512x16.Slices ![0, e.val] S512x1) (y : Vec Ideal S1x1x512x1024 .bf16) (r : Fin 512) (n : Fin 1024) :
    step a (hits (col p e.val h)) y (ix2 r n) = a (ix2 r n) + picked (p (ix2 r e)) fun j => y (ix4 0 0 j n) := by
  rw [step_at, ← hit_sum]
  refine congrArg (a (ix2 r n) + ·) (Finset.sum_congr rfl fun j _ => ?_)
  rw [hits_at, col_at]

end Cert.Kernel5Ideal.RefValue
end
-- ==== Proof.Combine.Stores.lean ====
/- What the combination kernel's body leaves in its output block, entry by entry. -/
module

public import proofs.«01_k».proof.Proof.Combine.Payloads
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen
open Cert.Reference5Ideal.Spec (picked normRow)

/-- The running sum after all sixteen experts. -/
def chain (p : IVec S512x16 32) (y0 y1 y2 y3 y4 y5 y6 y7 y8 y9 y10 y11 y12 y13 y14 y15 : Vec Ideal S1x1x512x1024 .bf16) : FVec Ideal S512x1024 .f32 :=
  step (step (step (step (step (step (step (step (step (step (step (step (step (step (step (step nothing (hits (col p 0 slices_S512x16_o0_0_S512x1)) y0) (hits (col p 1 slices_S512x16_o0_1_S512x1)) y1) (hits (col p 2 slices_S512x16_o0_2_S512x1)) y2) (hits (col p 3 slices_S512x16_o0_3_S512x1)) y3) (hits (col p 4 slices_S512x16_o0_4_S512x1)) y4) (hits (col p 5 slices_S512x16_o0_5_S512x1)) y5) (hits (col p 6 slices_S512x16_o0_6_S512x1)) y6) (hits (col p 7 slices_S512x16_o0_7_S512x1)) y7) (hits (col p 8 slices_S512x16_o0_8_S512x1)) y8) (hits (col p 9 slices_S512x16_o0_9_S512x1)) y9) (hits (col p 10 slices_S512x16_o0_10_S512x1)) y10) (hits (col p 11 slices_S512x16_o0_11_S512x1)) y11) (hits (col p 12 slices_S512x16_o0_12_S512x1)) y12) (hits (col p 13 slices_S512x16_o0_13_S512x1)) y13) (hits (col p 14 slices_S512x16_o0_14_S512x1)) y14) (hits (col p 15 slices_S512x16_o0_15_S512x1)) y15

/-- Sixteen numbers added in turn. -/
theorem sum16 (f : Fin 16 → EReal) : (∑ e : Fin 16, f e) = 0 + f 0 + f 1 + f 2 + f 3 + f 4 + f 5 + f 6 + f 7 + f 8 + f 9 + f 10 + f 11 + f 12 + f 13 + f 14 + f 15 := by
  simp only [Fin.sum_univ_castSucc, Finset.univ_eq_empty, Finset.sum_empty]
  rfl

/-- The running sum's entry: the sum over the experts of their entries at the token's places. -/
theorem chain_at (p : IVec S512x16 32) (y : Fin 16 → Vec Ideal S1x1x512x1024 .bf16) (r : Fin 512) (n : Fin 1024) :
    chain p (y 0) (y 1) (y 2) (y 3) (y 4) (y 5) (y 6) (y 7) (y 8) (y 9) (y 10) (y 11) (y 12) (y 13) (y 14) (y 15) (ix2 r n)
      = ∑ e : Fin 16, picked (p (ix2 r e)) fun j => y e (ix4 0 0 j n) := by
  refine Eq.trans ?_ (sum16 _).symm
  unfold chain
  refine (add_at _ p 15 slices_S512x16_o0_15_S512x1 _ r n).trans (congrArg (· + _) ?_)
  refine (add_at _ p 14 slices_S512x16_o0_14_S512x1 _ r n).trans (congrArg (· + _) ?_)
  refine (add_at _ p 13 slices_S512x16_o0_13_S512x1 _ r n).trans (congrArg (· + _) ?_)
  refine (add_at _ p 12 slices_S512x16_o0_12_S512x1 _ r n).trans (congrArg (· + _) ?_)
  refine (add_at _ p 11 slices_S512x16_o0_11_S512x1 _ r n).trans (congrArg (· + _) ?_)
  refine (add_at _ p 10 slices_S512x16_o0_10_S512x1 _ r n).trans (congrArg (· + _) ?_)
  refine (add_at _ p 9 slices_S512x16_o0_9_S512x1 _ r n).trans (congrArg (· + _) ?_)
  refine (add_at _ p 8 slices_S512x16_o0_8_S512x1 _ r n).trans (congrArg (· + _) ?_)
  refine (add_at _ p 7 slices_S512x16_o0_7_S512x1 _ r n).trans (congrArg (· + _) ?_)
  refine (add_at _ p 6 slices_S512x16_o0_6_S512x1 _ r n).trans (congrArg (· + _) ?_)
  refine (add_at _ p 5 slices_S512x16_o0_5_S512x1 _ r n).trans (congrArg (· + _) ?_)
  refine (add_at _ p 4 slices_S512x16_o0_4_S512x1 _ r n).trans (congrArg (· + _) ?_)
  refine (add_at _ p 3 slices_S512x16_o0_3_S512x1 _ r n).trans (congrArg (· + _) ?_)
  refine (add_at _ p 2 slices_S512x16_o0_2_S512x1 _ r n).trans (congrArg (· + _) ?_)
  refine (add_at _ p 1 slices_S512x16_o0_1_S512x1 _ r n).trans (congrArg (· + _) ?_)
  refine (add_at _ p 0 slices_S512x16_o0_0_S512x1 _ r n).trans (congrArg (· + _) ?_)
  exact nothing_at r n

variable (x0 : Vec Ideal S16x1x512x1024 .bf16) (x1 : Vec Ideal S1x512x16 .i32) (x2 : Vec Ideal S1x512x1024 .f32)
  (x3 : Vec Ideal S1x1x1024 .f32) (x4 : Vec Ideal S1x1024 .f32)

/-- A row of the residual, from the blocks. -/
abbrev rowAt (r : Fin 512) (n : Fin 1024) : EReal :=
  x2 (ix3 0 r n) + x3 (ix3 0 0 n) * ∑ e : Fin 16, picked (x1 (ix3 0 r e)) fun j => x0 (ix4 e 0 j n)

/-- One expert's slots as the body reads them. -/
abbrev slots : Fin 16 → Vec Ideal S1x1x512x1024 .bf16
  | ⟨0, _⟩ => View.ld x0 r0_1
  | ⟨1, _⟩ => View.ld x0 r0_2
  | ⟨2, _⟩ => View.ld x0 r0_3
  | ⟨3, _⟩ => View.ld x0 r0_4
  | ⟨4, _⟩ => View.ld x0 r0_5
  | ⟨5, _⟩ => View.ld x0 r0_6
  | ⟨6, _⟩ => View.ld x0 r0_7
  | ⟨7, _⟩ => View.ld x0 r0_8
  | ⟨8, _⟩ => View.ld x0 r0_9
  | ⟨9, _⟩ => View.ld x0 r0_10
  | ⟨10, _⟩ => View.ld x0 r0_11
  | ⟨11, _⟩ => View.ld x0 r0_12
  | ⟨12, _⟩ => View.ld x0 r0_13
  | ⟨13, _⟩ => View.ld x0 r0_14
  | ⟨14, _⟩ => View.ld x0 r0_15
  | ⟨15, _⟩ => View.ld x0 r0_16
  | ⟨k + 16, h⟩ => absurd h (by omega)

/-- One entry of an expert's slots. -/
theorem slots_at (e : Fin 16) (j : Fin 512) (n : Fin 1024) : slots x0 e (ix4 0 0 j n) = x0 (ix4 e 0 j n) := by
  match e with
  | ⟨0, _⟩ => show View.ld x0 r0_1 (ix4 0 0 j n) = x0 (ix4 0 0 j n); pointwise
  | ⟨1, _⟩ => show View.ld x0 r0_2 (ix4 0 0 j n) = x0 (ix4 1 0 j n); pointwise
  | ⟨2, _⟩ => show View.ld x0 r0_3 (ix4 0 0 j n) = x0 (ix4 2 0 j n); pointwise
  | ⟨3, _⟩ => show View.ld x0 r0_4 (ix4 0 0 j n) = x0 (ix4 3 0 j n); pointwise
  | ⟨4, _⟩ => show View.ld x0 r0_5 (ix4 0 0 j n) = x0 (ix4 4 0 j n); pointwise
  | ⟨5, _⟩ => show View.ld x0 r0_6 (ix4 0 0 j n) = x0 (ix4 5 0 j n); pointwise
  | ⟨6, _⟩ => show View.ld x0 r0_7 (ix4 0 0 j n) = x0 (ix4 6 0 j n); pointwise
  | ⟨7, _⟩ => show View.ld x0 r0_8 (ix4 0 0 j n) = x0 (ix4 7 0 j n); pointwise
  | ⟨8, _⟩ => show View.ld x0 r0_9 (ix4 0 0 j n) = x0 (ix4 8 0 j n); pointwise
  | ⟨9, _⟩ => show View.ld x0 r0_10 (ix4 0 0 j n) = x0 (ix4 9 0 j n); pointwise
  | ⟨10, _⟩ => show View.ld x0 r0_11 (ix4 0 0 j n) = x0 (ix4 10 0 j n); pointwise
  | ⟨11, _⟩ => show View.ld x0 r0_12 (ix4 0 0 j n) = x0 (ix4 11 0 j n); pointwise
  | ⟨12, _⟩ => show View.ld x0 r0_13 (ix4 0 0 j n) = x0 (ix4 12 0 j n); pointwise
  | ⟨13, _⟩ => show View.ld x0 r0_14 (ix4 0 0 j n) = x0 (ix4 13 0 j n); pointwise
  | ⟨14, _⟩ => show View.ld x0 r0_15 (ix4 0 0 j n) = x0 (ix4 14 0 j n); pointwise
  | ⟨15, _⟩ => show View.ld x0 r0_16 (ix4 0 0 j n) = x0 (ix4 15 0 j n); pointwise
  | ⟨k + 16, h⟩ => exact absurd h (by omega)

/-- The places as the body reads them. -/
theorem places_at (r : Fin 512) (e : Fin 16) : k0_pay2 (F := Ideal) (View.ld x1 r0_0) (ix2 r e) = x1 (ix3 0 r e) := by
  pointwise [k0_pay2]

/-- The running sum, the blocks read from their buffers. -/
theorem total_at (r : Fin 512) (n : Fin 1024) :
    chain (k0_pay2 (F := Ideal) (View.ld x1 r0_0)) (View.ld x0 r0_1) (View.ld x0 r0_2) (View.ld x0 r0_3) (View.ld x0 r0_4) (View.ld x0 r0_5) (View.ld x0 r0_6) (View.ld x0 r0_7) (View.ld x0 r0_8) (View.ld x0 r0_9) (View.ld x0 r0_10) (View.ld x0 r0_11) (View.ld x0 r0_12) (View.ld x0 r0_13) (View.ld x0 r0_14) (View.ld x0 r0_15) (View.ld x0 r0_16) (ix2 r n)
      = ∑ e : Fin 16, picked (x1 (ix3 0 r e)) fun j => x0 (ix4 e 0 j n) := by
  refine (chain_at _ (slots x0) r n).trans (Finset.sum_congr rfl fun e _ => ?_)
  rw [places_at]
  exact congrArg (picked _) (funext fun j => slots_at x0 e j n)

/-- The residual, the blocks read from their buffers. -/
theorem row_eq (r : Fin 512) (n : Fin 1024) :
    gated (chain (k0_pay2 (F := Ideal) (View.ld x1 r0_0)) (View.ld x0 r0_1) (View.ld x0 r0_2) (View.ld x0 r0_3) (View.ld x0 r0_4) (View.ld x0 r0_5) (View.ld x0 r0_6) (View.ld x0 r0_7) (View.ld x0 r0_8) (View.ld x0 r0_9) (View.ld x0 r0_10) (View.ld x0 r0_11) (View.ld x0 r0_12) (View.ld x0 r0_13) (View.ld x0 r0_14) (View.ld x0 r0_15) (View.ld x0 r0_16)) (View.ld x2 r0_17) (View.ld x3 r0_18) (ix2 r n) = rowAt x0 x1 x2 x3 r n := by
  rw [gated_at, total_at]
  unfold rowAt
  generalize (∑ e : Fin 16, picked (x1 (ix3 0 r e)) fun j => x0 (ix4 e 0 j n)) = u
  pointwise

/-- The norm's weight as the body reads it. -/
theorem weight_eq (k : Fin 1024) : View.ld x4 r0_19 (ix2 0 k) = x4 (ix2 0 k) := by
  pointwise

/-- The stored value is these steps. -/
theorem store_eq :
    k0_pay1 (k0_pay9 (k0_pay11 x0 x1 x2 x3 x4) (k0_pay12 x0 x1 x2 x3 x4) (k0_pay7 (k0_pay11 x0 x1 x2 x3 x4) (k0_pay12 x0 x1 x2 x3 x4) (k0_pay5 (k0_pay11 x0 x1 x2 x3 x4) (k0_pay12 x0 x1 x2 x3 x4) (k0_pay3 (View.ld x1 r0_0) (View.ld x0 r0_1) (View.ld x0 r0_2) (View.ld x0 r0_3)) (k0_pay4 (View.ld x1 r0_0)) (View.ld x0 r0_4) (View.ld x0 r0_5) (View.ld x0 r0_6) (View.ld x0 r0_7)) (k0_pay6 (F := Ideal) (k0_pay11 x0 x1 x2 x3 x4) (k0_pay12 x0 x1 x2 x3 x4)) (View.ld x0 r0_8) (View.ld x0 r0_9) (View.ld x0 r0_10) (View.ld x0 r0_11)) (k0_pay8 (F := Ideal) (k0_pay11 x0 x1 x2 x3 x4) (k0_pay12 x0 x1 x2 x3 x4)) (View.ld x0 r0_12) (View.ld x0 r0_13) (View.ld x0 r0_14) (View.ld x0 r0_15)) (k0_pay10 (F := Ideal) (k0_pay11 x0 x1 x2 x3 x4) (k0_pay12 x0 x1 x2 x3 x4)) (View.ld x0 r0_16) (View.ld x2 r0_17) (View.ld x3 r0_18) (View.ld x4 r0_19)
      = scaled (gated (chain (k0_pay2 (F := Ideal) (View.ld x1 r0_0)) (View.ld x0 r0_1) (View.ld x0 r0_2) (View.ld x0 r0_3) (View.ld x0 r0_4) (View.ld x0 r0_5) (View.ld x0 r0_6) (View.ld x0 r0_7) (View.ld x0 r0_8) (View.ld x0 r0_9) (View.ld x0 r0_10) (View.ld x0 r0_11) (View.ld x0 r0_12) (View.ld x0 r0_13) (View.ld x0 r0_14) (View.ld x0 r0_15) (View.ld x0 r0_16)) (View.ld x2 r0_17) (View.ld x3 r0_18)) (View.ld x4 r0_19) := rfl

/-- The output block is the norm of the residual. -/
theorem out5 (y : S1x512x1024.Idx) : out0_5 (F := Ideal) x0 x1 x2 x3 x4 y = normRow (rowAt x0 x1 x2 x3 (y 1)) (fun k => x4 (ix2 0 k)) (y 2) := by
  unfold out0_5
  rw [store_eq]
  canon_tiles x h
  all_goals
    rw [scaled_at, show y 1 = x 1 from Fin.ext h1, show y 2 = x 2 from Fin.ext h2]
    exact congrArg₂ (fun u w => normRow u w (x 2)) (funext fun k => row_eq x0 x1 x2 x3 (x 1) k) (funext fun k => weight_eq x4 k)

end Cert.Kernel5Ideal.RefValue
end
-- ==== Proof.Combine.Blocks.lean ====
/- The combination kernel's blocks at a grid point, entry by entry. -/
module

public import proofs.«01_k».proof.Proof.Combine.Stores
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen
open Cert.Reference5Ideal.Spec (picked normRow residual combined normed)

variable (m : (ℓ : Loc nD τ sig) → Buf (Elt Ideal) ℓ)

/-- Where each window's block lies at a grid point: the sample `t / 8` and the stretch of tokens `t % 8`. -/
theorem idx : ∀ t : Fin cfg0.N, win0_0.index t = ![0, t.val / 8, 0, 0] ∧ win0_1.index t = ![t.val / 8, t.val % 8, 0]
    ∧ win0_2.index t = ![t.val / 8, t.val % 8, 0] ∧ win0_3.index t = ![t.val / 8, 0, 0] ∧ win0_4.index t = ![0, 0]
    ∧ win0_5.index t = ![t.val / 8, t.val % 8, 0] ∧ t.val / 8 < 4 :=
  (by decide +kernel : ∀ t : Fin grid0.N, _)

/-- The places with the tokens before the experts, entry by entry. -/
theorem turned (p : IVec S4x16x4096 32) (b : Fin 4) (s : Fin 4096) (e : Fin 16) :
    transpose S4x4096x16 [0, 2, 1] p transposes_S4x16x4096_S4x4096x16_0_2_1 (ix3 b s e) = p (ix3 b e s) := by
  pointwise

/-- The norm's weight as the kernel reads it. -/
theorem flat (w : FVec Ideal S1024 .f32) (n : Fin 1024) : shapeCast S1x1024 w shapeCasts_S1024_S1x1024 (ix2 0 n) = w (ix1 n) := by
  pointwise

/-- The places, as the host lays them out. -/
theorem V_places (c : Dev nD) : V m c main_v0
    = transpose S4x4096x16 [0, 2, 1] (m ((c : Thread nD τ).loc main_arg1)) transposes_S4x16x4096_S4x4096x16_0_2_1 := by
  unfold V
  simp only [hostOps0, List.flatten_cons, List.flatten_nil, List.append_nil, List.cons_append, List.nil_append]
  after_results; try rfl

/-- The norm's weight, as the host lays it out. -/
theorem V_norm (c : Dev nD) : V m c main_v1 = shapeCast S1x1024 (m ((c : Thread nD τ).loc main_arg4)) shapeCasts_S1024_S1x1024 := by
  unfold V
  simp only [hostOps0, List.flatten_cons, List.flatten_nil, List.append_nil, List.cons_append, List.nil_append]
  after_results; try rfl

/-- The norm's block, entry by entry. -/
theorem norm_at (c : Dev nD) (t : Fin cfg0.N) (n : Fin 1024) :
    (show FVec Ideal S1x1024 .f32 from iblk m c 4 t) (ix2 0 n) = m ((c : Thread nD τ).loc main_arg4) (ix1 n) := by
  show V m c main_v1 ((win0_4.blk t).view.emb (ix2 0 n)) = _
  have he : (win0_4.blk t).view.emb (ix2 0 n) = ix2 0 n := by blk_ext [idx t]
  rw [he, V_norm]
  exact flat _ n

variable (c : Dev nD) (t : Fin cfg0.N) (r : Fin 512) (b : Fin 4) (s : Fin 4096)

/-- The experts' rows at a point. -/
theorem y_at (e : Fin 16) (j : Fin 512) (n : Fin 1024) (hb : (b : ℕ) = t.val / 8) :
    (show FVec Ideal S16x1x512x1024 .bf16 from iblk m c 0 t) (ix4 e 0 j n) = m ((c : Thread nD τ).loc main_arg0) (ix4 e b j n) := by
  show V m c main_arg0 ((win0_0.blk t).view.emb (ix4 e 0 j n)) = _
  have he : (win0_0.blk t).view.emb (ix4 e 0 j n) = ix4 e b j n := by blk_ext [idx t]
  rw [he, V_main_arg0]

/-- The tokens' places at a point. -/
theorem p_at (e : Fin 16) (hb : (b : ℕ) = t.val / 8) (hs : (s : ℕ) = t.val % 8 * 512 + r) :
    (show IVec S1x512x16 32 from iblk m c 1 t) (ix3 0 r e) = m ((c : Thread nD τ).loc main_arg1) (ix3 b e s) := by
  show V m c main_v0 ((win0_1.blk t).view.emb (ix3 0 r e)) = _
  have he : (win0_1.blk t).view.emb (ix3 0 r e) = ix3 b s e := by blk_ext [idx t]
  rw [he, V_places]
  exact turned _ b s e

/-- The stream at a point. -/
theorem x_at (n : Fin 1024) (hb : (b : ℕ) = t.val / 8) (hs : (s : ℕ) = t.val % 8 * 512 + r) :
    (show FVec Ideal S1x512x1024 .f32 from iblk m c 2 t) (ix3 0 r n) = m ((c : Thread nD τ).loc main_arg2) (ix3 b s n) := by
  show V m c main_arg2 ((win0_2.blk t).view.emb (ix3 0 r n)) = _
  have he : (win0_2.blk t).view.emb (ix3 0 r n) = ix3 b s n := by blk_ext [idx t]
  rw [he, V_main_arg2]

/-- The gate at a point. -/
theorem g_at (n : Fin 1024) (hb : (b : ℕ) = t.val / 8) :
    (show FVec Ideal S1x1x1024 .f32 from iblk m c 3 t) (ix3 0 0 n) = m ((c : Thread nD τ).loc main_arg3) (ix3 b 0 n) := by
  show V m c main_arg3 ((win0_3.blk t).view.emb (ix3 0 0 n)) = _
  have he : (win0_3.blk t).view.emb (ix3 0 0 n) = ix3 b 0 n := by blk_ext [idx t]
  rw [he, V_main_arg3]

/-- The residual of the program's arguments. -/
abbrev stream (c : Dev nD) : FVec Ideal Cert.Reference5Ideal.S4x4096x1024 .f32 :=
  residual (m ((c : Thread nD τ).loc main_arg2)) (m ((c : Thread nD τ).loc main_arg3)) (combined (m ((c : Thread nD τ).loc main_arg0)) (m ((c : Thread nD τ).loc main_arg1)))

/-- A point's residual row is the reference's. -/
theorem row_at (hb : (b : ℕ) = t.val / 8) (hs : (s : ℕ) = t.val % 8 * 512 + r) (n : Fin 1024) :
    rowAt (iblk m c 0 t) (iblk m c 1 t) (iblk m c 2 t) (iblk m c 3 t) r n = stream m c (ix3 b s n) := by
  refine Eq.trans ?_ (Cert.Reference5Ideal.Spec.residual_at _ _ _ b s n).symm
  refine congrArg₂ (· + ·) (x_at m c t r b s n hb hs) (congrArg₂ (· * ·) (g_at m c t b n hb) ?_)
  refine Eq.trans ?_ (Cert.Reference5Ideal.Spec.combined_at _ _ b s n).symm
  exact Finset.sum_congr rfl fun e _ => congrArg₂ picked (p_at m c t r b s e hb hs) (funext fun j => y_at m c t b e j n hb)

end Cert.Kernel5Ideal.RefValue
end
-- ==== Proof.Combine.Final.lean ====
/- The combination kernel's result is the reference's. -/
module

public import proofs.«01_k».proof.Proof.Combine.Blocks
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen
open Cert.Reference5Ideal.Spec (normRow normed)

variable (m : (ℓ : Loc nD τ sig) → Buf (Elt Ideal) ℓ)

/-- The result is the norm of the residual with the combined experts. -/
theorem final (c : Dev nD) : (dats m 0 c).arrAt 5 cfg0.N = normed (stream m c) (m ((c : Thread nD τ).loc main_arg4)) := by
  refine (dats m 0 c).arrAt_eq_of_covers 5 _ (by decide +kernel) fun t _ y => ?_
  blk_simp
  rw [after0_5]
  refine (out5 _ _ _ _ _ y).trans ?_
  obtain ⟨b, s, n, hj, hb, hs, hn⟩ : ∃ (b : Fin 4) (s : Fin 4096) (n : Fin 1024), (win0_5.blk t).view.emb y = ix3 b s n
      ∧ (b : ℕ) = t.val / 8 ∧ (s : ℕ) = t.val % 8 * 512 + y 1 ∧ n = y 2 := by
    refine ⟨(win0_5.blk t).view.emb y 0, (win0_5.blk t).view.emb y 1, (win0_5.blk t).view.emb y 2, by blk_ext, ?_, ?_, Fin.ext ?_⟩
    all_goals (blk_simp [idx t] <;> try omega)
  subst hn
  rw [hj]
  refine Eq.trans ?_ (Cert.Reference5Ideal.Spec.normed_at _ _ b s (y 2)).symm
  exact congrArg₂ (fun u w => normRow u w (y 2)) (funext fun k => row_at m c t (y 1) b s hb hs k) (funext fun k => norm_at m c t k)

end Cert.Kernel5Ideal.RefValue
end
-- ==== Proof.Combine.Pair.lean ====
/- The combination kernel and its reference end with the same result. -/
module

public import proofs.«01_k».proof.Defs
public import proofs.«01_k».proof.Proof.Combine.Final
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The combination's reference leaves its arguments as they were and its semaphores at zero. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The combination kernel and its reference end with the same result array. -/
theorem combine_algebraic : Cert.algebraic_Kernel5Ideal_Reference5Ideal := by
  intro m g m' g' _ ha
  refine ⟨fun c => (Cert.Kernel5Ideal.Gen.dats m 0 c).arrAt 5 Cert.Kernel5Ideal.cfg0.N, ?_, ?_⟩
  · exact Cert.Kernel5Ideal.Value.run_blocks m g
  · refine (θ_run Cert.Reference5Ideal.defs _ _).mono (fun r h c => ?_) (Cert.Reference5Ideal.Value.run (F := Ideal) m' g')
    obtain ⟨h0, h1, h2, h3, h4⟩ := ha c
    refine ⟨(h c).1.trans ((Cert.Reference5Ideal.Spec.res_eq m' c).trans (Eq.trans ?_ (Cert.Kernel5Ideal.RefValue.final m c).symm)), (h c).2⟩
    rw [h0, h1, h2, h3, h4]

end Cert.Proof
end
-- ==== Proof.Gather.Payloads.lean ====
/- What the gathering kernel computes from its blocks, entry by entry, for any blocks. -/
module

public import proofs.«01_k».proof.Proof.Gen.Kernel6Ideal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

/-- A value where a token's place is the slot, zero elsewhere. -/
def put (p : BitVec 32) (j : Fin 512) (x : EReal) : EReal := if p.toNat = j.val then x else 0

/-- Whether a token's place is the slot, for a stretch of tokens. -/
def marks (p : Vec Ideal S1x1x1x512 .i32) : IVec S512x512 1 :=
  cmpi .eq (broadcastTo S512x512 (shapeCast S1x512 p shapeCasts_S1x1x1x512_S1x512) broadcasts_S1x512_S512x512) (iota .tc S512x512 32 [0] iota_S512x512_d0_w32)

/-- The gathered tokens with one more stretch. -/
def step (a : FVec Ideal S512x1024 .f32) (p : Vec Ideal S1x1x1x512 .i32) (h : Vec Ideal S1x512x1024 .bf16) : FVec Ideal S512x1024 .f32 :=
  addf a (matmul dot_S512x512_S512x1024_S512x1024_1_0_0_1_n_n none (truncf .bf16 (sitofp .f32 (extui 32 (marks p) natLt_1_32)) bitsLt_bf16_f32) (show FVec Ideal S512x1024 .bf16 from shapeCast S512x1024 h shapeCasts_S1x512x1024_S512x1024) (constant S512x1024 .f32 0x00000000#32))

/-- The gates with one more stretch. -/
def tick (g : FVec Ideal S512x1 .f32) (p : Vec Ideal S1x1x1x512 .i32) (a : Vec Ideal S1x1x1x512 .f32) : FVec Ideal S512x1 .f32 :=
  addf g (shapeCast S512x1 (multiReduction (φ := .f32) .add [1] S512 (select (marks p) (broadcastTo S512x512 (shapeCast S1x512 (shapeCast S1x512 a shapeCasts_S1x1x1x512_S1x512) shapeCasts_S1x512_S1x512) broadcasts_S1x512_S512x512) (broadcast S512x512 (Scalar.ofBits (F := Ideal) .f32 0x00000000#32))) 0x00000000#32 reduces_S512x512_S512 (.inl rfl) rfl) shapeCasts_S512_S512x1)

/-- The gathered tokens' start. -/
def nothing : FVec Ideal S512x1024 .f32 := broadcast S512x1024 (Scalar.ofBits .f32 0x00000000#32)

/-- The gates' start. -/
def shut : FVec Ideal S512x1 .f32 := broadcast S512x1 (Scalar.ofBits .f32 0x00000000#32)

/-- The gathered tokens as the body stores them. -/
def packed (a : FVec Ideal S512x1024 .f32) : FVec Ideal S1x1x512x1024 .bf16 :=
  shapeCast S1x1x512x1024 (truncf .bf16 a bitsLt_bf16_f32) shapeCasts_S512x1024_S1x1x512x1024

/-- The gates as the body stores them. -/
def bound (g : FVec Ideal S512x1 .f32) : FVec Ideal S1x1x512x1 .f32 := shapeCast S1x1x512x1 g shapeCasts_S512x1_S1x1x512x1

/-- The comparison of a place with a slot, when they agree. -/
theorem same (p : BitVec 32) (j : Fin 512) (h : p.toNat = j.val) : IntOp.cmpi .eq p (BitVec.ofNat 32 j.val) = 1#1 := by
  have hp : p = BitVec.ofNat 32 j.val := by rw [← h]; simp
  subst hp
  simp [IntOp.cmpi]

/-- The comparison of a place with a slot, when they differ. -/
theorem differ (p : BitVec 32) (j : Fin 512) (h : p.toNat ≠ j.val) : IntOp.cmpi .eq p (BitVec.ofNat 32 j.val) = 0#1 := by
  have hp : p ≠ BitVec.ofNat 32 j.val := by
    intro e; apply h; rw [e, BitVec.toNat_ofNat]; omega
  have hb : (p == BitVec.ofNat 32 j.val) = false := beq_eq_false_iff_ne.mpr hp
  simp [IntOp.cmpi, hb]

/-- The comparison as a number times a value. -/
theorem weighed (p : BitVec 32) (j : Fin 512) (x : EReal) :
    (FloatOps.sitofp FTy.f32 ((IntOp.cmpi .eq p (BitVec.ofNat 32 j.val)).setWidth 32) : Ideal .f32) * x = put p j x := by
  unfold put
  by_cases h : p.toNat = j.val
  · rw [if_pos h, same p j h]; simp [FloatOps.sitofp]
  · rw [if_neg h, differ p j h]; simp [FloatOps.sitofp]

/-- The value chosen by the comparison. -/
theorem chosen (p : BitVec 32) (j : Fin 512) (x : EReal) : Scalar.select (IntOp.cmpi .eq p (BitVec.ofNat 32 j.val)) x 0 = put p j x := by
  unfold put
  by_cases h : p.toNat = j.val
  · rw [if_pos h, same p j h]; rfl
  · rw [if_neg h, differ p j h]; rfl

/-- One mark. -/
theorem marks_at (p : Vec Ideal S1x1x1x512 .i32) (j r : Fin 512) : marks p (ix2 j r) = IntOp.cmpi .eq (p (ix4 0 0 0 r)) (BitVec.ofNat 32 j.val) := by
  pointwise [marks]

/-- One more stretch's tokens. -/
theorem step_at (a : FVec Ideal S512x1024 .f32) (p : Vec Ideal S1x1x1x512 .i32) (h : Vec Ideal S1x512x1024 .bf16) (j : Fin 512) (n : Fin 1024) :
    step a p h (ix2 j n) = a (ix2 j n) + ∑ r : Fin 512, put (p (ix4 0 0 0 r)) j (h (ix3 0 r n)) := by
  simp only [← weighed, ← marks_at]
  unfold step
  generalize marks p = k
  pointwise

/-- One more stretch's gates. -/
theorem tick_at (g : FVec Ideal S512x1 .f32) (p : Vec Ideal S1x1x1x512 .i32) (a : Vec Ideal S1x1x1x512 .f32) (j : Fin 512) :
    tick g p a (ix2 j 0) = g (ix2 j 0) + ∑ r : Fin 512, put (p (ix4 0 0 0 r)) j (a (ix4 0 0 0 r)) := by
  simp only [← chosen, ← marks_at]
  unfold tick
  generalize marks p = k
  pointwise

/-- The gathered tokens start from zero. -/
theorem nothing_at (j : Fin 512) (n : Fin 1024) : nothing (ix2 j n) = 0 := by
  pointwise [nothing]

/-- The gates start from zero. -/
theorem shut_at (j : Fin 512) : shut (ix2 j 0) = 0 := by
  pointwise [shut]

/-- One stored token entry. -/
theorem packed_at (a : FVec Ideal S512x1024 .f32) (x : S1x1x512x1024.Idx) : packed a x = a (ix2 (x 2) (x 3)) := by
  pointwise [packed]

/-- One stored gate. -/
theorem bound_at (g : FVec Ideal S512x1 .f32) (x : S1x1x512x1.Idx) : bound g x = g (ix2 (x 2) 0) := by
  pointwise [bound]

end Cert.Kernel6Ideal.RefValue
end
-- ==== Proof.Gather.Stores.lean ====
/- What the gathering kernel's body leaves in its output blocks, entry by entry. -/
module

public import proofs.«01_k».proof.Proof.Gather.Payloads
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

variable (x0 : Vec Ideal S1x1x1x4096 .i32) (x1 : Vec Ideal S1x1x1x4096 .f32) (x2 : Vec Ideal S1x4096x1024 .bf16)

/-- Eight numbers added in turn. -/
theorem sum8 (f : Fin 8 → EReal) : (∑ e : Fin 8, f e) = 0 + f 0 + f 1 + f 2 + f 3 + f 4 + f 5 + f 6 + f 7 := by
  simp only [Fin.sum_univ_castSucc, Finset.univ_eq_empty, Finset.sum_empty]
  rfl

/-- A sum over the tokens, stretch by stretch. -/
theorem stretches (f : Fin 4096 → EReal) : (∑ s : Fin 4096, f s) = 0 + (∑ r : Fin 512, f ⟨0 + r.val, by omega⟩) + (∑ r : Fin 512, f ⟨512 + r.val, by omega⟩) + (∑ r : Fin 512, f ⟨1024 + r.val, by omega⟩) + (∑ r : Fin 512, f ⟨1536 + r.val, by omega⟩) + (∑ r : Fin 512, f ⟨2048 + r.val, by omega⟩) + (∑ r : Fin 512, f ⟨2560 + r.val, by omega⟩) + (∑ r : Fin 512, f ⟨3072 + r.val, by omega⟩) + (∑ r : Fin 512, f ⟨3584 + r.val, by omega⟩) := by
  rw [Fin.sum_univ_tiles 8 512 rfl, sum8]
  rfl

/-- Stretch 0 of the places as the body reads it. -/
theorem place0 (r : Fin 512) : View.ld x0 r0_0 (ix4 0 0 0 r) = x0 (ix4 0 0 0 ⟨0 + r.val, by omega⟩) := by
  pointwise

/-- Stretch 0 of the affinities as the body reads it. -/
theorem weight0 (r : Fin 512) : View.ld x1 r0_0 (ix4 0 0 0 r) = x1 (ix4 0 0 0 ⟨0 + r.val, by omega⟩) := by
  pointwise

/-- Stretch 0 of the tokens as the body reads it. -/
theorem token0 (r : Fin 512) (n : Fin 1024) : View.ld x2 r0_1 (ix3 0 r n) = x2 (ix3 0 ⟨0 + r.val, by omega⟩ n) := by
  pointwise

/-- Stretch 1 of the places as the body reads it. -/
theorem place1 (r : Fin 512) : View.ld x0 r0_2 (ix4 0 0 0 r) = x0 (ix4 0 0 0 ⟨512 + r.val, by omega⟩) := by
  pointwise

/-- Stretch 1 of the affinities as the body reads it. -/
theorem weight1 (r : Fin 512) : View.ld x1 r0_2 (ix4 0 0 0 r) = x1 (ix4 0 0 0 ⟨512 + r.val, by omega⟩) := by
  pointwise

/-- Stretch 1 of the tokens as the body reads it. -/
theorem token1 (r : Fin 512) (n : Fin 1024) : View.ld x2 r0_3 (ix3 0 r n) = x2 (ix3 0 ⟨512 + r.val, by omega⟩ n) := by
  pointwise

/-- Stretch 2 of the places as the body reads it. -/
theorem place2 (r : Fin 512) : View.ld x0 r0_4 (ix4 0 0 0 r) = x0 (ix4 0 0 0 ⟨1024 + r.val, by omega⟩) := by
  pointwise

/-- Stretch 2 of the affinities as the body reads it. -/
theorem weight2 (r : Fin 512) : View.ld x1 r0_4 (ix4 0 0 0 r) = x1 (ix4 0 0 0 ⟨1024 + r.val, by omega⟩) := by
  pointwise

/-- Stretch 2 of the tokens as the body reads it. -/
theorem token2 (r : Fin 512) (n : Fin 1024) : View.ld x2 r0_5 (ix3 0 r n) = x2 (ix3 0 ⟨1024 + r.val, by omega⟩ n) := by
  pointwise

/-- Stretch 3 of the places as the body reads it. -/
theorem place3 (r : Fin 512) : View.ld x0 r0_6 (ix4 0 0 0 r) = x0 (ix4 0 0 0 ⟨1536 + r.val, by omega⟩) := by
  pointwise

/-- Stretch 3 of the affinities as the body reads it. -/
theorem weight3 (r : Fin 512) : View.ld x1 r0_6 (ix4 0 0 0 r) = x1 (ix4 0 0 0 ⟨1536 + r.val, by omega⟩) := by
  pointwise

/-- Stretch 3 of the tokens as the body reads it. -/
theorem token3 (r : Fin 512) (n : Fin 1024) : View.ld x2 r0_7 (ix3 0 r n) = x2 (ix3 0 ⟨1536 + r.val, by omega⟩ n) := by
  pointwise

/-- Stretch 4 of the places as the body reads it. -/
theorem place4 (r : Fin 512) : View.ld x0 r0_8 (ix4 0 0 0 r) = x0 (ix4 0 0 0 ⟨2048 + r.val, by omega⟩) := by
  pointwise

/-- Stretch 4 of the affinities as the body reads it. -/
theorem weight4 (r : Fin 512) : View.ld x1 r0_8 (ix4 0 0 0 r) = x1 (ix4 0 0 0 ⟨2048 + r.val, by omega⟩) := by
  pointwise

/-- Stretch 4 of the tokens as the body reads it. -/
theorem token4 (r : Fin 512) (n : Fin 1024) : View.ld x2 r0_9 (ix3 0 r n) = x2 (ix3 0 ⟨2048 + r.val, by omega⟩ n) := by
  pointwise

/-- Stretch 5 of the places as the body reads it. -/
theorem place5 (r : Fin 512) : View.ld x0 r0_10 (ix4 0 0 0 r) = x0 (ix4 0 0 0 ⟨2560 + r.val, by omega⟩) := by
  pointwise

/-- Stretch 5 of the affinities as the body reads it. -/
theorem weight5 (r : Fin 512) : View.ld x1 r0_10 (ix4 0 0 0 r) = x1 (ix4 0 0 0 ⟨2560 + r.val, by omega⟩) := by
  pointwise

/-- Stretch 5 of the tokens as the body reads it. -/
theorem token5 (r : Fin 512) (n : Fin 1024) : View.ld x2 r0_11 (ix3 0 r n) = x2 (ix3 0 ⟨2560 + r.val, by omega⟩ n) := by
  pointwise

/-- Stretch 6 of the places as the body reads it. -/
theorem place6 (r : Fin 512) : View.ld x0 r0_12 (ix4 0 0 0 r) = x0 (ix4 0 0 0 ⟨3072 + r.val, by omega⟩) := by
  pointwise

/-- Stretch 6 of the affinities as the body reads it. -/
theorem weight6 (r : Fin 512) : View.ld x1 r0_12 (ix4 0 0 0 r) = x1 (ix4 0 0 0 ⟨3072 + r.val, by omega⟩) := by
  pointwise

/-- Stretch 6 of the tokens as the body reads it. -/
theorem token6 (r : Fin 512) (n : Fin 1024) : View.ld x2 r0_13 (ix3 0 r n) = x2 (ix3 0 ⟨3072 + r.val, by omega⟩ n) := by
  pointwise

/-- Stretch 7 of the places as the body reads it. -/
theorem place7 (r : Fin 512) : View.ld x0 r0_14 (ix4 0 0 0 r) = x0 (ix4 0 0 0 ⟨3584 + r.val, by omega⟩) := by
  pointwise

/-- Stretch 7 of the affinities as the body reads it. -/
theorem weight7 (r : Fin 512) : View.ld x1 r0_14 (ix4 0 0 0 r) = x1 (ix4 0 0 0 ⟨3584 + r.val, by omega⟩) := by
  pointwise

/-- Stretch 7 of the tokens as the body reads it. -/
theorem token7 (r : Fin 512) (n : Fin 1024) : View.ld x2 r0_15 (ix3 0 r n) = x2 (ix3 0 ⟨3584 + r.val, by omega⟩ n) := by
  pointwise

/-- The gathered tokens after all eight stretches. -/
def chain : FVec Ideal S512x1024 .f32 :=
  step (step (step (step (step (step (step (step nothing (View.ld x0 r0_0) (View.ld x2 r0_1)) (View.ld x0 r0_2) (View.ld x2 r0_3)) (View.ld x0 r0_4) (View.ld x2 r0_5)) (View.ld x0 r0_6) (View.ld x2 r0_7)) (View.ld x0 r0_8) (View.ld x2 r0_9)) (View.ld x0 r0_10) (View.ld x2 r0_11)) (View.ld x0 r0_12) (View.ld x2 r0_13)) (View.ld x0 r0_14) (View.ld x2 r0_15)

/-- The gates after all eight stretches. -/
def count : FVec Ideal S512x1 .f32 :=
  tick (tick (tick (tick (tick (tick (tick (tick shut (View.ld x0 r0_0) (View.ld x1 r0_0)) (View.ld x0 r0_2) (View.ld x1 r0_2)) (View.ld x0 r0_4) (View.ld x1 r0_4)) (View.ld x0 r0_6) (View.ld x1 r0_6)) (View.ld x0 r0_8) (View.ld x1 r0_8)) (View.ld x0 r0_10) (View.ld x1 r0_10)) (View.ld x0 r0_12) (View.ld x1 r0_12)) (View.ld x0 r0_14) (View.ld x1 r0_14)

/-- The gathered tokens' entry: the sum of the tokens whose place is the slot. -/
theorem chain_at (j : Fin 512) (n : Fin 1024) : chain x0 x2 (ix2 j n) = ∑ s : Fin 4096, put (x0 (ix4 0 0 0 s)) j (x2 (ix3 0 s n)) := by
  rw [stretches]
  unfold chain
  refine (step_at _ _ _ j n).trans (congrArg₂ (· + ·) ?_ (Finset.sum_congr rfl fun r _ => congrArg₂ (fun p x => put p j x) (place7 x0 r) (token7 x2 r n)))
  refine (step_at _ _ _ j n).trans (congrArg₂ (· + ·) ?_ (Finset.sum_congr rfl fun r _ => congrArg₂ (fun p x => put p j x) (place6 x0 r) (token6 x2 r n)))
  refine (step_at _ _ _ j n).trans (congrArg₂ (· + ·) ?_ (Finset.sum_congr rfl fun r _ => congrArg₂ (fun p x => put p j x) (place5 x0 r) (token5 x2 r n)))
  refine (step_at _ _ _ j n).trans (congrArg₂ (· + ·) ?_ (Finset.sum_congr rfl fun r _ => congrArg₂ (fun p x => put p j x) (place4 x0 r) (token4 x2 r n)))
  refine (step_at _ _ _ j n).trans (congrArg₂ (· + ·) ?_ (Finset.sum_congr rfl fun r _ => congrArg₂ (fun p x => put p j x) (place3 x0 r) (token3 x2 r n)))
  refine (step_at _ _ _ j n).trans (congrArg₂ (· + ·) ?_ (Finset.sum_congr rfl fun r _ => congrArg₂ (fun p x => put p j x) (place2 x0 r) (token2 x2 r n)))
  refine (step_at _ _ _ j n).trans (congrArg₂ (· + ·) ?_ (Finset.sum_congr rfl fun r _ => congrArg₂ (fun p x => put p j x) (place1 x0 r) (token1 x2 r n)))
  refine (step_at _ _ _ j n).trans (congrArg₂ (· + ·) ?_ (Finset.sum_congr rfl fun r _ => congrArg₂ (fun p x => put p j x) (place0 x0 r) (token0 x2 r n)))
  exact nothing_at j n

/-- The gates' entry: the sum of the affinities of the tokens whose place is the slot. -/
theorem count_at (j : Fin 512) : count x0 x1 (ix2 j 0) = ∑ s : Fin 4096, put (x0 (ix4 0 0 0 s)) j (x1 (ix4 0 0 0 s)) := by
  rw [stretches]
  unfold count
  refine (tick_at _ _ _ j).trans (congrArg₂ (· + ·) ?_ (Finset.sum_congr rfl fun r _ => congrArg₂ (fun p x => put p j x) (place7 x0 r) (weight7 x1 r)))
  refine (tick_at _ _ _ j).trans (congrArg₂ (· + ·) ?_ (Finset.sum_congr rfl fun r _ => congrArg₂ (fun p x => put p j x) (place6 x0 r) (weight6 x1 r)))
  refine (tick_at _ _ _ j).trans (congrArg₂ (· + ·) ?_ (Finset.sum_congr rfl fun r _ => congrArg₂ (fun p x => put p j x) (place5 x0 r) (weight5 x1 r)))
  refine (tick_at _ _ _ j).trans (congrArg₂ (· + ·) ?_ (Finset.sum_congr rfl fun r _ => congrArg₂ (fun p x => put p j x) (place4 x0 r) (weight4 x1 r)))
  refine (tick_at _ _ _ j).trans (congrArg₂ (· + ·) ?_ (Finset.sum_congr rfl fun r _ => congrArg₂ (fun p x => put p j x) (place3 x0 r) (weight3 x1 r)))
  refine (tick_at _ _ _ j).trans (congrArg₂ (· + ·) ?_ (Finset.sum_congr rfl fun r _ => congrArg₂ (fun p x => put p j x) (place2 x0 r) (weight2 x1 r)))
  refine (tick_at _ _ _ j).trans (congrArg₂ (· + ·) ?_ (Finset.sum_congr rfl fun r _ => congrArg₂ (fun p x => put p j x) (place1 x0 r) (weight1 x1 r)))
  refine (tick_at _ _ _ j).trans (congrArg₂ (· + ·) ?_ (Finset.sum_congr rfl fun r _ => congrArg₂ (fun p x => put p j x) (place0 x0 r) (weight0 x1 r)))
  exact shut_at j

/-- The stored tokens are these steps. -/
theorem store3 :
    k0_pay20 (k0_pay22 x0 x1 x2) (k0_pay16 (k0_pay22 x0 x1 x2) (k0_pay11 (k0_pay22 x0 x1 x2) (k0_pay6 (k0_pay22 x0 x1 x2) (k0_pay4 (View.ld x0 r0_0) (View.ld x2 r0_1) (View.ld x0 r0_2) (View.ld x2 r0_3)) (View.ld x0 r0_4) (View.ld x2 r0_5)) (k0_pay9 (k0_pay22 x0 x1 x2) (View.ld x0 r0_6)) (View.ld x2 r0_7) (View.ld x0 r0_8) (View.ld x2 r0_9)) (View.ld x0 r0_10) (View.ld x2 r0_11) (View.ld x0 r0_12) (View.ld x2 r0_13)) (View.ld x0 r0_14) (View.ld x2 r0_15)
      = packed (chain x0 x2) := rfl

/-- The stored gates are these steps. -/
theorem store4 :
    k0_pay21 (k0_pay22 x0 x1 x2) (k0_pay14 (k0_pay22 x0 x1 x2) (k0_pay12 (k0_pay22 x0 x1 x2) (k0_pay7 (k0_pay22 x0 x1 x2) (k0_pay2 (View.ld x0 r0_0) (View.ld x1 r0_0)) (k0_pay3 (View.ld x0 r0_2)) (View.ld x1 r0_2) (View.ld x0 r0_4) (View.ld x1 r0_4)) (k0_pay8 (k0_pay22 x0 x1 x2) (View.ld x0 r0_6)) (View.ld x1 r0_6) (View.ld x0 r0_8) (View.ld x1 r0_8)) (View.ld x0 r0_10) (View.ld x1 r0_10)) (k0_pay15 (k0_pay22 x0 x1 x2) (View.ld x0 r0_12)) (k0_pay17 (View.ld x1 r0_12)) (k0_pay18 (F := Ideal)) (View.ld x0 r0_14) (View.ld x1 r0_14)
      = bound (count x0 x1) := rfl

/-- The tokens' output block. -/
theorem out3 (y : S1x1x512x1024.Idx) : out0_3 (F := Ideal) x0 x1 x2 y = ∑ s : Fin 4096, put (x0 (ix4 0 0 0 s)) (y 2) (x2 (ix3 0 s (y 3))) := by
  unfold out0_3
  rw [store3]
  canon_tiles x h
  all_goals
    rw [packed_at, show y 2 = x 2 from Fin.ext h2, show y 3 = x 3 from Fin.ext h3]
    exact chain_at x0 x2 (x 2) (x 3)

/-- The gates' output block. -/
theorem out4 (y : S1x1x512x1.Idx) : out0_4 (F := Ideal) x0 x1 x2 y = ∑ s : Fin 4096, put (x0 (ix4 0 0 0 s)) (y 2) (x1 (ix4 0 0 0 s)) := by
  unfold out0_4
  rw [store4]
  canon_tiles x h
  all_goals
    rw [bound_at, show y 2 = x 2 from Fin.ext h2]
    exact count_at x0 x1 (x 2)

end Cert.Kernel6Ideal.RefValue
end
-- ==== Proof.Gather.Spec.lean ====
/- The gathering's reference, written as a few named functions of its arguments, and these functions entry by entry. -/
module

public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Reference6Ideal.Spec

open Cert.Reference6Ideal Cert.Reference6Ideal.Gen Idealize.ShloMosaic Idealize.ShloMosaic.TcCoe Idealize.SL.Sem Idealize.ShloMosaic.StableHlo

/-- The slot of every token, one past the last for the tokens without one. -/
def slotted (p : IVec S4x16x4096 32) : IVec S4x16x4096 32 :=
  select (cmpi .slt p (broadcastInDim S4x16x4096 ![] bcast_S_S4x16x4096 (constantI S_ 32 0#32))) (broadcastInDim S4x16x4096 ![] bcast_S_S4x16x4096 (id (constantI S_ 32 512#32))) p

/-- The slots as index words. -/
def third (q : IVec S4x16x4096 32) : IVec S4x16x4096x1 32 :=
  broadcastInDim S4x16x4096x1 ![0, 1, 2] bcast_S4x16x4096_S4x16x4096x1_0_1_2 (select (cmpi .slt q (broadcastInDim S4x16x4096 ![] bcast_S_S4x16x4096 (constantI S_ 32 0#32))) (addi q (broadcastInDim S4x16x4096 ![] bcast_S_S4x16x4096 (constantI S_ 32 512#32))) q)

/-- The experts as index words. -/
def first : IVec S4x16x4096x1 32 :=
  broadcastInDim S4x16x4096x1 ![0, 1, 2] bcast_S4x16x4096_S4x16x4096x1_0_1_2 (broadcastInDim S4x16x4096 ![0, 1, 2] bcast_S1x16x1_S4x16x4096_0_1_2 (select (cmpi .slt (broadcastInDim S1x16x1 ![1] bcast_S16_S1x16x1_1 (iotaInDim S16 32 0)) (broadcastInDim S1x16x1 ![] bcast_S_S1x16x1 (constantI S_ 32 0#32))) (addi (broadcastInDim S1x16x1 ![1] bcast_S16_S1x16x1_1 (iotaInDim S16 32 0)) (broadcastInDim S1x16x1 ![] bcast_S_S1x16x1 (constantI S_ 32 16#32))) (broadcastInDim S1x16x1 ![1] bcast_S16_S1x16x1_1 (iotaInDim S16 32 0))))

/-- The samples as index words. -/
def second : IVec S4x16x4096x1 32 :=
  broadcastInDim S4x16x4096x1 ![0, 1, 2] bcast_S4x16x4096_S4x16x4096x1_0_1_2 (broadcastInDim S4x16x4096 ![0, 1, 2] bcast_S4x1x1_S4x16x4096_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0))))

/-- The three index words of every update. -/
def words (u v w : IVec S4x16x4096x1 32) : IVec S4x16x4096x3 32 :=
  concatenate (α := Elt Ideal .i32) S4x16x4096x3 3 [⟨S4x16x4096x1, u⟩, ⟨S4x16x4096x1, v⟩, ⟨S4x16x4096x1, w⟩] concatenates_S4x16x4096x1_S4x16x4096x1_S4x16x4096x1_S4x16x4096x3_d3

/-- Where every token goes. -/
def target (p : IVec S4x16x4096 32) : IVec S4x16x4096x3 32 := words first second (third (slotted p))

/-- The tokens, once for each expert. -/
def copies (h : FVec Ideal S4x4096x1024 .bf16) : FVec Ideal S4x16x4096x1024 .bf16 :=
  broadcastInDim S4x16x4096x1024 ![0, 1, 2, 3] bcast_S4x1x4096x1024_S4x16x4096x1024_0_1_2_3 (broadcastInDim S4x1x4096x1024 ![0, 2, 3] bcast_S4x4096x1024_S4x1x4096x1024_0_2_3 h)

/-- The tokens in their slots. -/
def tokens (p : IVec S4x16x4096 32) (h : FVec Ideal S4x4096x1024 .bf16) : FVec Ideal S16x4x512x1024 .bf16 :=
  Host.scatterAdd scatter_S16x4x512x1024_S4x16x4096x3_S4x16x4096x1024_3_012_012_3 (broadcastInDim S16x4x512x1024 ![] bcast_S_S16x4x512x1024 (constant S_ .bf16 0x0000#16)) (target p) (copies h)

/-- The affinities in their tokens' slots. -/
def spread (p : IVec S4x16x4096 32) (a : FVec Ideal S4x16x4096 .f32) : FVec Ideal S16x4x512 .f32 :=
  Host.scatterAdd scatter_S16x4x512_S4x16x4096x3_S4x16x4096_n_012_012_3 (broadcastInDim S16x4x512 ![] bcast_S_S16x4x512 (constant S_ .f32 0x00000000#32)) (target p) a

/-- The gates of the slots. -/
def gates (p : IVec S4x16x4096 32) (a : FVec Ideal S4x16x4096 .f32) : FVec Ideal S16x4x512x1 .f32 :=
  broadcastInDim S16x4x512x1 ![0, 1, 2] bcast_S16x4x512_S16x4x512x1_0_1_2 (spread p a)

/-! ## Entry by entry -/

/-- One token's slot. -/
theorem slotted_at (p : IVec S4x16x4096 32) (b : Fin 4) (e : Fin 16) (s : Fin 4096) :
    slotted p (ix3 b e s) = Scalar.select (IntOp.cmpi .slt (p (ix3 b e s)) 0#32) 512#32 (p (ix3 b e s)) := by
  pointwise [slotted]
  rfl

/-- One slot's index word. -/
theorem third_at (q : IVec S4x16x4096 32) (b : Fin 4) (e : Fin 16) (s : Fin 4096) :
    third q (ix4 b e s 0) = Scalar.select (IntOp.cmpi .slt (q (ix3 b e s)) 0#32) (IntOp.addi (q (ix3 b e s)) 512#32) (q (ix3 b e s)) := by
  pointwise [third]

/-- One expert's index word. -/
theorem first_at (b : Fin 4) (e : Fin 16) (s : Fin 4096) :
    first (ix4 b e s 0) = Scalar.select (IntOp.cmpi .slt (BitVec.ofNat 32 e.val) 0#32) (IntOp.addi (BitVec.ofNat 32 e.val) 16#32) (BitVec.ofNat 32 e.val) := by
  pointwise [first]

/-- One sample's index word. -/
theorem second_at (b : Fin 4) (e : Fin 16) (s : Fin 4096) :
    second (ix4 b e s 0) = Scalar.select (IntOp.cmpi .slt (BitVec.ofNat 32 b.val) 0#32) (IntOp.addi (BitVec.ofNat 32 b.val) 4#32) (BitVec.ofNat 32 b.val) := by
  pointwise [second]

/-- An update's first index word. -/
theorem words_0 (u v w : IVec S4x16x4096x1 32) (b : Fin 4) (e : Fin 16) (s : Fin 4096) : words u v w (ix4 b e s 0) = u (ix4 b e s 0) := by
  pointwise [words]

/-- An update's second index word. -/
theorem words_1 (u v w : IVec S4x16x4096x1 32) (b : Fin 4) (e : Fin 16) (s : Fin 4096) : words u v w (ix4 b e s 1) = v (ix4 b e s 0) := by
  pointwise [words]

/-- An update's third index word. -/
theorem words_2 (u v w : IVec S4x16x4096x1 32) (b : Fin 4) (e : Fin 16) (s : Fin 4096) : words u v w (ix4 b e s 2) = w (ix4 b e s 0) := by
  pointwise [words]

/-- One token's copy. -/
theorem copies_at (h : FVec Ideal S4x4096x1024 .bf16) (b : Fin 4) (e : Fin 16) (s : Fin 4096) (n : Fin 1024) :
    copies h (ix4 b e s n) = h (ix3 b s n) := by
  pointwise [copies]

/-- One gate. -/
theorem gates_eq (p : IVec S4x16x4096 32) (a : FVec Ideal S4x16x4096 .f32) (e : Fin 16) (b : Fin 4) (j : Fin 512) :
    gates p a (ix4 e b j 0) = spread p a (ix3 e b j) := by
  unfold gates
  generalize spread p a = u
  pointwise

end Cert.Reference6Ideal.Spec
end
-- ==== Proof.Gather.Scatter.lean ====
/- What the reference's adding of every token at its slot gives, entry by entry. -/
module

public import proofs.«01_k».proof.Proof.Gather.Spec
public import Idealize.ShloMosaic.Lib.Pointwise
public import Idealize.ShloMosaic.Lib.Pipeline.ValueKit
public import Idealize.ShloMosaic.Lib.Routing.OpsPair

@[expose] public section

set_option maxRecDepth 16384

noncomputable section

namespace Cert.Reference6Ideal.Spec

open Cert.Reference6Ideal Cert.Reference6Ideal.Gen Idealize.ShloMosaic Idealize.ShloMosaic.TcCoe Idealize.SL.Sem Idealize.ShloMosaic.StableHlo
open Idealize.ShloMosaic.Routing (resultIdx?_eq_some)

/-- A small number as a word read with its sign. -/
theorem toInt_small (k : Nat) (h : k < 512) : (BitVec.ofNat 32 k).toInt = (k : Int) := by
  rw [BitVec.toInt_eq_toNat_cond, BitVec.toNat_ofNat]; omega

/-- Choosing by a test that asks whether a word is negative, when it is not. -/
theorem keep (q x : BitVec 32) (h : ¬ q.toInt < 0) : Scalar.select (IntOp.cmpi .slt q 0#32) x q = q := by
  have h1 : IntOp.cmpi .slt q 0#32 = 0#1 := by
    simp [IntOp.cmpi, BitVec.slt_eq_decide, h]
  rw [h1]
  rfl

/-- Choosing by a test that asks whether a word is negative, when it is. -/
theorem swap (q x : BitVec 32) (h : q.toInt < 0) : Scalar.select (IntOp.cmpi .slt q 0#32) x q = x := by
  have h1 : IntOp.cmpi .slt q 0#32 = 1#1 := by
    simp [IntOp.cmpi, BitVec.slt_eq_decide, h]
  rw [h1]
  rfl

/-- The first index word is the expert. -/
theorem target_0 (p : IVec S4x16x4096 32) (b : Fin 4) (e : Fin 16) (s : Fin 4096) : (target p (ix4 b e s 0)).toInt = (e.val : Int) := by
  unfold target
  have he := toInt_small e.val (by omega)
  rw [words_0, first_at, keep _ _ (by omega), he]

/-- The second index word is the sample. -/
theorem target_1 (p : IVec S4x16x4096 32) (b : Fin 4) (e : Fin 16) (s : Fin 4096) : (target p (ix4 b e s 1)).toInt = (b.val : Int) := by
  unfold target
  have he := toInt_small b.val (by omega)
  rw [words_1, second_at, keep _ _ (by omega), he]

/-- The third index word is a slot exactly when the token's place is that slot. -/
theorem target_2 (p : IVec S4x16x4096 32) (b : Fin 4) (e : Fin 16) (s : Fin 4096) (j : Fin 512) :
    (target p (ix4 b e s 2)).toInt = (j.val : Int) ↔ (p (ix3 b e s)).toNat = j.val := by
  unfold target
  rw [words_2, third_at, slotted_at]
  generalize p (ix3 b e s) = q
  have hq := q.isLt
  have hc := BitVec.toInt_eq_toNat_cond q
  by_cases h : q.toInt < 0
  · rw [swap _ _ h]
    have h2 : (512#32 : BitVec 32).toInt = 512 := by decide
    rw [keep _ _ (by omega), h2]
    constructor <;> intro h3 <;> omega
  · rw [keep q _ h, keep _ _ h]
    omega

section tokens

/-- How the tokens are added. -/
abbrev dt := scatter_S16x4x512x1024_S4x16x4096x3_S4x16x4096x1024_3_012_012_3

/-- Where a token's copy reads its index words. -/
theorem dt_si (k : S4x16x4096x1024.Idx) (i : Fin 3) : dt.siIdx k i = ix4 (k 0) (k 1) (k 2) i := by
  funext z; refine Fin.ext ?_
  match z with
  | ⟨0, _⟩ => rfl
  | ⟨1, _⟩ => rfl
  | ⟨2, _⟩ => rfl
  | ⟨3, _⟩ => rfl

/-- A token's copy lands at an entry exactly when its expert, sample, slot and feature are the entry's. -/
theorem dt_lands (p : IVec S4x16x4096 32) (k : S4x16x4096x1024.Idx) (e : Fin 16) (b : Fin 4) (j : Fin 512) (n : Fin 1024) :
    dt.resultIdx? k (target p) = some (ix4 e b j n) ↔ k 1 = e ∧ k 0 = b ∧ (p (ix3 (k 0) (k 1) (k 2))).toNat = j.val ∧ k 3 = n := by
  have m0 : (0 : Fin 4) ∈ dt.scatterDimsToOperandDims := by show (0 : Fin 4) ∈ [0, 1, 2]; decide
  have m1 : (1 : Fin 4) ∈ dt.scatterDimsToOperandDims := by show (1 : Fin 4) ∈ [0, 1, 2]; decide
  have m2 : (2 : Fin 4) ∈ dt.scatterDimsToOperandDims := by show (2 : Fin 4) ∈ [0, 1, 2]; decide
  have m3 : (3 : Fin 4) ∉ dt.scatterDimsToOperandDims := by show (3 : Fin 4) ∉ [0, 1, 2]; decide
  have s0 : dt.start k (target p) 0 = ((k 1).val : Int) := by
    unfold ScatterDims.start
    rw [dif_pos m0]
    exact (congrArg (fun z => (target p z).toInt) (dt_si k 0)).trans (target_0 p (k 0) (k 1) (k 2))
  have s1 : dt.start k (target p) 1 = ((k 0).val : Int) := by
    unfold ScatterDims.start
    rw [dif_pos m1]
    exact (congrArg (fun z => (target p z).toInt) (dt_si k 1)).trans (target_1 p (k 0) (k 1) (k 2))
  have s2 : dt.start k (target p) 2 = (target p (ix4 (k 0) (k 1) (k 2) 2)).toInt := by
    unfold ScatterDims.start
    rw [dif_pos m2]
    exact congrArg (fun z => (target p z).toInt) (dt_si k 2)
  have s3 : dt.start k (target p) 3 = 0 := by
    unfold ScatterDims.start
    rw [dif_neg m3]
  have w0 : dt.window k 0 = 0 := rfl
  have w1 : dt.window k 1 = 0 := rfl
  have w2 : dt.window k 2 = 0 := rfl
  have w3 : dt.window k 3 = (k 3).val := rfl
  rw [resultIdx?_eq_some]
  constructor
  · intro h
    have h0 := h 0
    have h1 := h 1
    have h2 := h 2
    have h3 := h 3
    rw [s0, w0] at h0
    rw [s1, w1] at h1
    rw [s2, w2] at h2
    rw [s3, w3] at h3
    change _ = (e.val : Int) at h0
    change _ = (b.val : Int) at h1
    change _ = (j.val : Int) at h2
    change _ = (n.val : Int) at h3
    refine ⟨Fin.ext (by omega), Fin.ext (by omega), (target_2 p _ _ _ j).mp (by omega), Fin.ext (by omega)⟩
  · rintro ⟨h0, h1, h2, h3⟩ a
    have h0' := congrArg Fin.val h0
    have h1' := congrArg Fin.val h1
    have h2' := (target_2 p (k 0) (k 1) (k 2) j).mpr h2
    have h3' := congrArg Fin.val h3
    match a with
    | ⟨0, _⟩ =>
      show dt.start k (target p) 0 + (dt.window k 0 : Int) = (e.val : Int)
      rw [s0, w0]; omega
    | ⟨1, _⟩ =>
      show dt.start k (target p) 1 + (dt.window k 1 : Int) = (b.val : Int)
      rw [s1, w1]; omega
    | ⟨2, _⟩ =>
      show dt.start k (target p) 2 + (dt.window k 2 : Int) = (j.val : Int)
      rw [s2, w2]; omega
    | ⟨3, _⟩ =>
      show dt.start k (target p) 3 + (dt.window k 3 : Int) = (n.val : Int)
      rw [s3, w3]; omega

/-- An entry of the gathered tokens: the sum of the tokens whose place is the slot. -/
theorem tokens_at (p : IVec S4x16x4096 32) (h : FVec Ideal S4x4096x1024 .bf16) (e : Fin 16) (b : Fin 4) (j : Fin 512) (n : Fin 1024) :
    tokens p h (ix4 e b j n) = ∑ s : Fin 4096, if (p (ix3 b e s)).toNat = j.val then h (ix3 b s n) else 0 := by
  unfold tokens
  unfold Host.scatterAdd
  rw [Ideal.hostScatterAdd_def]
  have hz : broadcastInDim S16x4x512x1024 ![] bcast_S_S16x4x512x1024 (constant (F := Ideal) S_ .bf16 0x0000#16) (ix4 e b j n) = 0 := by pointwise
  refine (congrArg (· + _) hz).trans ((zero_add _).trans ?_)
  rw [← Finset.sum_filter]
  refine Finset.sum_bij' (fun k _ => k 2) (fun s _ => ix4 b e s n) ?_ ?_ ?_ ?_ ?_
  · intro k hk
    obtain ⟨h0, h1, h2, h3⟩ := (dt_lands p k e b j n).mp (Finset.mem_filter.mp hk).2
    refine Finset.mem_filter.mpr ⟨Finset.mem_univ _, ?_⟩
    rw [h0, h1] at h2
    exact h2
  · intro s hs
    exact Finset.mem_filter.mpr ⟨Finset.mem_univ _, (dt_lands p _ e b j n).mpr ⟨rfl, rfl, (Finset.mem_filter.mp hs).2, rfl⟩⟩
  · intro k hk
    obtain ⟨h0, h1, h2, h3⟩ := (dt_lands p k e b j n).mp (Finset.mem_filter.mp hk).2
    funext a
    match a with
    | ⟨0, _⟩ => exact h1.symm
    | ⟨1, _⟩ => exact h0.symm
    | ⟨2, _⟩ => rfl
    | ⟨3, _⟩ => exact h3.symm
  · intro s hs
    rfl
  · intro k hk
    obtain ⟨h0, h1, h2, h3⟩ := (dt_lands p k e b j n).mp (Finset.mem_filter.mp hk).2
    have hk' : k = ix4 b e (k 2) n := by
      funext a
      match a with
      | ⟨0, _⟩ => exact h1
      | ⟨1, _⟩ => exact h0
      | ⟨2, _⟩ => rfl
      | ⟨3, _⟩ => exact h3
    exact (congrArg (copies h) hk').trans (copies_at h b e (k 2) n)

end tokens

section spread

/-- How the affinities are added. -/
abbrev da := scatter_S16x4x512_S4x16x4096x3_S4x16x4096_n_012_012_3

/-- Where an affinity reads its index words. -/
theorem da_si (k : S4x16x4096.Idx) (i : Fin 3) : da.siIdx k i = ix4 (k 0) (k 1) (k 2) i := by
  funext z; refine Fin.ext ?_
  match z with
  | ⟨0, _⟩ => rfl
  | ⟨1, _⟩ => rfl
  | ⟨2, _⟩ => rfl
  | ⟨3, _⟩ => rfl

/-- An affinity lands at a slot exactly when its expert, sample and slot are these. -/
theorem da_lands (p : IVec S4x16x4096 32) (k : S4x16x4096.Idx) (e : Fin 16) (b : Fin 4) (j : Fin 512) :
    da.resultIdx? k (target p) = some (ix3 e b j) ↔ k 1 = e ∧ k 0 = b ∧ (p (ix3 (k 0) (k 1) (k 2))).toNat = j.val := by
  have m0 : (0 : Fin 3) ∈ da.scatterDimsToOperandDims := by show (0 : Fin 3) ∈ [0, 1, 2]; decide
  have m1 : (1 : Fin 3) ∈ da.scatterDimsToOperandDims := by show (1 : Fin 3) ∈ [0, 1, 2]; decide
  have m2 : (2 : Fin 3) ∈ da.scatterDimsToOperandDims := by show (2 : Fin 3) ∈ [0, 1, 2]; decide
  have s0 : da.start k (target p) 0 = ((k 1).val : Int) := by
    unfold ScatterDims.start
    rw [dif_pos m0]
    exact (congrArg (fun z => (target p z).toInt) (da_si k 0)).trans (target_0 p (k 0) (k 1) (k 2))
  have s1 : da.start k (target p) 1 = ((k 0).val : Int) := by
    unfold ScatterDims.start
    rw [dif_pos m1]
    exact (congrArg (fun z => (target p z).toInt) (da_si k 1)).trans (target_1 p (k 0) (k 1) (k 2))
  have s2 : da.start k (target p) 2 = (target p (ix4 (k 0) (k 1) (k 2) 2)).toInt := by
    unfold ScatterDims.start
    rw [dif_pos m2]
    exact congrArg (fun z => (target p z).toInt) (da_si k 2)
  have w0 : da.window k 0 = 0 := rfl
  have w1 : da.window k 1 = 0 := rfl
  have w2 : da.window k 2 = 0 := rfl
  rw [resultIdx?_eq_some]
  constructor
  · intro h
    have h0 := h 0
    have h1 := h 1
    have h2 := h 2
    rw [s0, w0] at h0
    rw [s1, w1] at h1
    rw [s2, w2] at h2
    change _ = (e.val : Int) at h0
    change _ = (b.val : Int) at h1
    change _ = (j.val : Int) at h2
    refine ⟨Fin.ext (by omega), Fin.ext (by omega), (target_2 p _ _ _ j).mp (by omega)⟩
  · rintro ⟨h0, h1, h2⟩ a
    have h0' := congrArg Fin.val h0
    have h1' := congrArg Fin.val h1
    have h2' := (target_2 p (k 0) (k 1) (k 2) j).mpr h2
    match a with
    | ⟨0, _⟩ =>
      show da.start k (target p) 0 + (da.window k 0 : Int) = (e.val : Int)
      rw [s0, w0]; omega
    | ⟨1, _⟩ =>
      show da.start k (target p) 1 + (da.window k 1 : Int) = (b.val : Int)
      rw [s1, w1]; omega
    | ⟨2, _⟩ =>
      show da.start k (target p) 2 + (da.window k 2 : Int) = (j.val : Int)
      rw [s2, w2]; omega

/-- An entry of the gates: the sum of the affinities of the tokens whose place is the slot. -/
theorem spread_at (p : IVec S4x16x4096 32) (u : FVec Ideal S4x16x4096 .f32) (e : Fin 16) (b : Fin 4) (j : Fin 512) :
    spread p u (ix3 e b j) = ∑ s : Fin 4096, if (p (ix3 b e s)).toNat = j.val then u (ix3 b e s) else 0 := by
  unfold spread
  unfold Host.scatterAdd
  rw [Ideal.hostScatterAdd_def]
  have hz : broadcastInDim S16x4x512 ![] bcast_S_S16x4x512 (constant (F := Ideal) S_ .f32 0x00000000#32) (ix3 e b j) = 0 := by pointwise
  refine (congrArg (· + _) hz).trans ((zero_add _).trans ?_)
  rw [← Finset.sum_filter]
  have hid : ∀ k : S4x16x4096.Idx, k 1 = e → k 0 = b → k = ix3 b e (k 2) := by
    intro k h0 h1
    funext a
    match a with
    | ⟨0, _⟩ => exact h1
    | ⟨1, _⟩ => exact h0
    | ⟨2, _⟩ => rfl
  refine Finset.sum_bij' (fun k _ => k 2) (fun s _ => ix3 b e s) ?_ ?_ ?_ ?_ ?_
  · intro k hk
    obtain ⟨h0, h1, h2⟩ := (da_lands p k e b j).mp (Finset.mem_filter.mp hk).2
    refine Finset.mem_filter.mpr ⟨Finset.mem_univ _, ?_⟩
    rw [h0, h1] at h2
    exact h2
  · intro s hs
    exact Finset.mem_filter.mpr ⟨Finset.mem_univ _, (da_lands p _ e b j).mpr ⟨rfl, rfl, (Finset.mem_filter.mp hs).2⟩⟩
  · intro k hk
    obtain ⟨h0, h1, h2⟩ := (da_lands p k e b j).mp (Finset.mem_filter.mp hk).2
    exact (hid k h0 h1).symm
  · intro s hs
    rfl
  · intro k hk
    obtain ⟨h0, h1, h2⟩ := (da_lands p k e b j).mp (Finset.mem_filter.mp hk).2
    exact congrArg u (hid k h0 h1)

end spread

/-- One gate: the sum of the affinities of the tokens whose place is the slot. -/
theorem gates_at (p : IVec S4x16x4096 32) (u : FVec Ideal S4x16x4096 .f32) (e : Fin 16) (b : Fin 4) (j : Fin 512) :
    gates p u (ix4 e b j 0) = ∑ s : Fin 4096, if (p (ix3 b e s)).toNat = j.val then u (ix3 b e s) else 0 :=
  (gates_eq p u e b j).trans (spread_at p u e b j)

end Cert.Reference6Ideal.Spec
end
-- ==== Proof.Gather.Blocks.lean ====
/- The gathering kernel's blocks at a grid point, entry by entry. -/
module

public import proofs.«01_k».proof.Proof.Gather.Stores
public import proofs.«01_k».proof.Proof.Gather.Scatter
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

variable (m : (ℓ : Loc nD τ sig) → Buf (Elt Ideal) ℓ)

/-- Where each window's block lies at a grid point: the sample `t / 16` and the expert `t % 16`. -/
theorem idx : ∀ t : Fin cfg0.N, win0_0.index t = ![t.val / 16, t.val % 16, 0, 0] ∧ win0_1.index t = ![t.val / 16, t.val % 16, 0, 0]
    ∧ win0_2.index t = ![t.val / 16, 0, 0] ∧ win0_3.index t = ![t.val % 16, t.val / 16, 0, 0]
    ∧ win0_4.index t = ![t.val % 16, t.val / 16, 0, 0] ∧ t.val / 16 < 4 :=
  (by decide +kernel : ∀ t : Fin grid0.N, _)

/-- The places as the kernel reads them. -/
theorem lined (p : IVec S4x16x4096 32) (b : Fin 4) (e : Fin 16) (s : Fin 4096) :
    shapeCast S4x16x1x4096 p shapeCasts_S4x16x4096_S4x16x1x4096 (ix4 b e 0 s) = p (ix3 b e s) := by
  pointwise

/-- The affinities as the kernel reads them. -/
theorem ruled (a : FVec Ideal S4x16x4096 .f32) (b : Fin 4) (e : Fin 16) (s : Fin 4096) :
    shapeCast S4x16x1x4096 a shapeCasts_S4x16x4096_S4x16x1x4096 (ix4 b e 0 s) = a (ix3 b e s) := by
  pointwise

/-- The places, as the host lays them out. -/
theorem V_places (c : Dev nD) : V m c main_v0 = shapeCast S4x16x1x4096 (m ((c : Thread nD τ).loc main_arg0)) shapeCasts_S4x16x4096_S4x16x1x4096 := by
  unfold V
  simp only [hostOps0, List.flatten_cons, List.flatten_nil, List.append_nil, List.cons_append, List.nil_append]
  after_results; try rfl

/-- The affinities, as the host lays them out. -/
theorem V_affinities (c : Dev nD) : V m c main_v1 = shapeCast S4x16x1x4096 (m ((c : Thread nD τ).loc main_arg1)) shapeCasts_S4x16x4096_S4x16x1x4096 := by
  unfold V
  simp only [hostOps0, List.flatten_cons, List.flatten_nil, List.append_nil, List.cons_append, List.nil_append]
  after_results; try rfl

variable (c : Dev nD) (t : Fin cfg0.N) (b : Fin 4) (e : Fin 16) (s : Fin 4096)

/-- The places at a point. -/
theorem p_at (hb : (b : ℕ) = t.val / 16) (he : (e : ℕ) = t.val % 16) :
    (show IVec S1x1x1x4096 32 from iblk m c 0 t) (ix4 0 0 0 s) = m ((c : Thread nD τ).loc main_arg0) (ix3 b e s) := by
  show V m c main_v0 ((win0_0.blk t).view.emb (ix4 0 0 0 s)) = _
  have hi : (win0_0.blk t).view.emb (ix4 0 0 0 s) = ix4 b e 0 s := by blk_ext [idx t]
  rw [hi, V_places]
  exact lined _ b e s

/-- The affinities at a point. -/
theorem a_at (hb : (b : ℕ) = t.val / 16) (he : (e : ℕ) = t.val % 16) :
    (show FVec Ideal S1x1x1x4096 .f32 from iblk m c 1 t) (ix4 0 0 0 s) = m ((c : Thread nD τ).loc main_arg1) (ix3 b e s) := by
  show V m c main_v1 ((win0_1.blk t).view.emb (ix4 0 0 0 s)) = _
  have hi : (win0_1.blk t).view.emb (ix4 0 0 0 s) = ix4 b e 0 s := by blk_ext [idx t]
  rw [hi, V_affinities]
  exact ruled _ b e s

/-- The tokens at a point. -/
theorem h_at (n : Fin 1024) (hb : (b : ℕ) = t.val / 16) :
    (show FVec Ideal S1x4096x1024 .bf16 from iblk m c 2 t) (ix3 0 s n) = m ((c : Thread nD τ).loc main_arg2) (ix3 b s n) := by
  show V m c main_arg2 ((win0_2.blk t).view.emb (ix3 0 s n)) = _
  have hi : (win0_2.blk t).view.emb (ix3 0 s n) = ix3 b s n := by blk_ext [idx t]
  rw [hi, V_main_arg2]

end Cert.Kernel6Ideal.RefValue
end
-- ==== Proof.Gather.Final.lean ====
/- The gathering kernel's results are the reference's. -/
module

public import proofs.«01_k».proof.Proof.Gather.Blocks
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen
open Cert.Reference6Ideal.Spec (tokens gates)

variable (m : (ℓ : Loc nD τ sig) → Buf (Elt Ideal) ℓ)

/-- The gathered tokens are the reference's. -/
theorem final3 (c : Dev nD) : (dats m 0 c).arrAt 3 cfg0.N = tokens (m ((c : Thread nD τ).loc main_arg0)) (m ((c : Thread nD τ).loc main_arg2)) := by
  refine (dats m 0 c).arrAt_eq_of_covers 3 _ (by decide +kernel) fun t _ y => ?_
  blk_simp
  rw [after0_3]
  refine (out3 _ _ _ y).trans ?_
  obtain ⟨e, b, j, n, hi, he, hb, hj, hn⟩ : ∃ (e : Fin 16) (b : Fin 4) (j : Fin 512) (n : Fin 1024), (win0_3.blk t).view.emb y = ix4 e b j n
      ∧ (e : ℕ) = t.val % 16 ∧ (b : ℕ) = t.val / 16 ∧ j = y 2 ∧ n = y 3 := by
    refine ⟨(win0_3.blk t).view.emb y 0, (win0_3.blk t).view.emb y 1, (win0_3.blk t).view.emb y 2, (win0_3.blk t).view.emb y 3, by blk_ext, ?_, ?_, Fin.ext ?_, Fin.ext ?_⟩
    all_goals (blk_simp [idx t] <;> try omega)
  subst hj hn
  rw [hi]
  refine Eq.trans ?_ (Cert.Reference6Ideal.Spec.tokens_at _ _ e b (y 2) (y 3)).symm
  exact Finset.sum_congr rfl fun s _ => congrArg₂ (fun p x => put p (y 2) x) (p_at m c t b e s hb he) (h_at m c t b s (y 3) hb)

/-- The gates are the reference's. -/
theorem final4 (c : Dev nD) : (dats m 0 c).arrAt 4 cfg0.N = gates (m ((c : Thread nD τ).loc main_arg0)) (m ((c : Thread nD τ).loc main_arg1)) := by
  refine (dats m 0 c).arrAt_eq_of_covers 4 _ (by decide +kernel) fun t _ y => ?_
  blk_simp
  rw [after0_4]
  refine (out4 _ _ _ y).trans ?_
  obtain ⟨e, b, j, hi, he, hb, hj⟩ : ∃ (e : Fin 16) (b : Fin 4) (j : Fin 512), (win0_4.blk t).view.emb y = ix4 e b j 0
      ∧ (e : ℕ) = t.val % 16 ∧ (b : ℕ) = t.val / 16 ∧ j = y 2 := by
    refine ⟨(win0_4.blk t).view.emb y 0, (win0_4.blk t).view.emb y 1, (win0_4.blk t).view.emb y 2, by blk_ext; exact congrFun (idx t).2.2.2.2.1 3, ?_, ?_, Fin.ext ?_⟩
    all_goals (blk_simp [idx t] <;> try omega)
  subst hj
  rw [hi]
  refine Eq.trans ?_ (Cert.Reference6Ideal.Spec.gates_at _ _ e b (y 2)).symm
  exact Finset.sum_congr rfl fun s _ => congrArg₂ (fun p x => put p (y 2) x) (p_at m c t b e s hb he) (a_at m c t b e s hb he)

end Cert.Kernel6Ideal.RefValue
end
-- ==== Proof.Gather.Pair.lean ====
/- The gathering kernel and its reference end with the same two results. -/
module

public import proofs.«01_k».proof.Defs
public import proofs.«01_k».proof.Proof.Gather.Final
public import Idealize.ShloMosaic.Lib.Claim

@[expose] public section

set_option maxRecDepth 16384

noncomputable section

open Idealize.ShloMosaic Idealize.ShloMosaic.TcCoe Idealize.SL.Sem

namespace Cert.Proof

/-- The gathering kernel and its reference end with the same two result arrays. -/
theorem gather_algebraic : Cert.algebraic_Kernel6Ideal_Reference6Ideal := by
  intro m g m' g' _ ha
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N, ?_, ?_⟩
  · exact Cert.Kernel6Ideal.Value.run_blocks m g
  · refine (θ_run Cert.Reference6Ideal.defs _ _).mono (fun r h c => ?_) (Cert.Reference6Ideal.Value.run (F := Ideal) m' g')
    obtain ⟨h0, h1, h2⟩ := ha c
    refine ⟨(h c).1.trans ?_, (h c).2.1.trans ?_, (h c).2.2⟩
    · exact (congrArg₂ Cert.Reference6Ideal.Spec.tokens h0 h2).trans (Cert.Kernel6Ideal.RefValue.final3 m c).symm
    · exact (congrArg₂ Cert.Reference6Ideal.Spec.gates h0 h1).trans (Cert.Kernel6Ideal.RefValue.final4 m c).symm

/-- The gathering's reference leaves its arguments as they were and its semaphores at zero. -/
theorem frame_reference6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run (F := Ideal) m g)

end Cert.Proof
end
-- ==== Proof.Ada.Spec.lean ====
/- The modulation's reference, written as one function of its arguments, and this function entry by entry. -/
module

public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Reference7Ideal.Spec

open Cert.Reference7Ideal Cert.Reference7Ideal.Gen Idealize.ShloMosaic Idealize.ShloMosaic.TcCoe Idealize.SL.Sem Idealize.ShloMosaic.StableHlo

/-- The conditions through their activation. -/
def active (x : FVec Ideal S8x1024 .f32) : FVec Ideal S8x1024 .f32 :=
  mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))

/-- The modulation: the activated conditions through the weight, and the bias. -/
def modulation (x : FVec Ideal S8x1024 .f32) (w : FVec Ideal S1x1024x6144 .f32) (b : FVec Ideal S1x6144 .f32) : FVec Ideal S8x6144 .f32 :=
  addf (Host.dotGeneral dot_S8x1024_S1024x6144_S8x6144_1_0_0_1_n_n none (active x) (shapeCast S1024x6144 w shapeCasts_S1x1024x6144_S1024x6144)) (broadcastInDim S8x6144 ![0, 1] bcast_S1x6144_S8x6144_0_1 (broadcastInDim S1x6144 ![1] bcast_S6144_S1x6144_1 (shapeCast S6144 b shapeCasts_S1x6144_S6144)))

/-- One activated condition. -/
abbrev act (x : EReal) : EReal := x * Ideal.div 1 (1 + Ideal.exp (-x))

/-- An activated entry. -/
theorem active_at (x : FVec Ideal S8x1024 .f32) (r : Fin 8) (k : Fin 1024) : active x (ix2 r k) = act (x (ix2 r k)) := by
  pointwise [active]

/-- The modulation's entry. -/
theorem modulation_at (x : FVec Ideal S8x1024 .f32) (w : FVec Ideal S1x1024x6144 .f32) (b : FVec Ideal S1x6144 .f32) (r : Fin 8) (n : Fin 6144) :
    modulation x w b (ix2 r n) = (∑ k : Fin 1024, act (x (ix2 r k)) * w (ix3 0 k n)) + b (ix2 0 n) := by
  simp only [← active_at]
  unfold modulation
  generalize active x = a
  pointwise

end Cert.Reference7Ideal.Spec
end
-- ==== Proof.Ada.Stores.lean ====
/- What the modulation kernel's body leaves in its output block, entry by entry. -/
module

public import proofs.«01_k».proof.Proof.Gen.Kernel7Ideal.Value
public import proofs.«01_k».proof.Proof.Ada.Spec
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen
open Cert.Reference7Ideal.Spec (act modulation)

/-- The conditions through their activation. -/
def lit (x : FVec Ideal S8x1024 .f32) : FVec Ideal S8x1024 .f32 :=
  mulf x (divf (broadcast S8x1024 (Scalar.ofBits .f32 0x3F800000#32)) (addf (broadcast S8x1024 (Scalar.ofBits .f32 0x3F800000#32)) (exp (subf (broadcast S8x1024 (Scalar.ofBits .f32 0x00000000#32)) x))))

/-- The product with a block of the weight, and the bias. -/
def through (a : FVec Ideal S8x1024 .f32) (w : Vec Ideal S1024x1024 .f32) (b : Vec Ideal S1x1024 .f32) : FVec Ideal S8x1024 .f32 :=
  addf (matmul dot_S8x1024_S1024x1024_S8x1024_1_0_0_1_n_n none (truncf .bf16 a bitsLt_bf16_f32) (truncf .bf16 (show FVec Ideal S1024x1024 .f32 from shapeCast S1024x1024 w shapeCasts_S1024x1024_S1024x1024) bitsLt_bf16_f32) (constant S8x1024 .f32 0x00000000#32))
    (broadcastTo S8x1024 (shapeCast S1x1024 b shapeCasts_S1x1024_S1x1024) broadcasts_S1x1024_S8x1024)

/-- The stored value is these two steps. -/
theorem pay_eq (x : Vec Ideal S8x1024 .f32) (w : Vec Ideal S1024x1024 .f32) (b : Vec Ideal S1x1024 .f32) : k0_pay1 (F := Ideal) x w b = through (lit x) w b := rfl

/-- An activated entry. -/
theorem lit_at (x : FVec Ideal S8x1024 .f32) (r : Fin 8) (k : Fin 1024) : lit x (ix2 r k) = act (x (ix2 r k)) := by
  pointwise [lit]
  rw [zero_sub]

/-- An entry of the product. -/
theorem through_at (a : FVec Ideal S8x1024 .f32) (w : Vec Ideal S1024x1024 .f32) (b : Vec Ideal S1x1024 .f32) (r : Fin 8) (n : Fin 1024) :
    through a w b (ix2 r n) = (∑ k : Fin 1024, a (ix2 r k) * w (ix2 k n)) + b (ix2 0 n) := by
  pointwise [through]

variable (x0 : Vec Ideal S8x1024 .f32) (x1 : Vec Ideal S1024x1024 .f32) (x2 : Vec Ideal S1x1024 .f32)

/-- The conditions as the body reads them. -/
theorem read0 (r : Fin 8) (k : Fin 1024) : View.ld x0 r0_0 (ix2 r k) = x0 (ix2 r k) := by
  pointwise

/-- The weight as the body reads it. -/
theorem read1 (k n : Fin 1024) : View.ld x1 r0_1 (ix2 k n) = x1 (ix2 k n) := by
  pointwise

/-- The bias as the body reads it. -/
theorem read2 (n : Fin 1024) : View.ld x2 r0_2 (ix2 0 n) = x2 (ix2 0 n) := by
  pointwise

/-- The stored entry, the blocks read from their buffers. -/
theorem stored_at (r : Fin 8) (n : Fin 1024) :
    through (lit (View.ld x0 r0_0)) (View.ld x1 r0_1) (View.ld x2 r0_2) (ix2 r n) = (∑ k : Fin 1024, act (x0 (ix2 r k)) * x1 (ix2 k n)) + x2 (ix2 0 n) := by
  rw [through_at]
  exact congrArg₂ (· + ·) (Finset.sum_congr rfl fun k _ => congrArg₂ (· * ·) ((lit_at _ r k).trans (congrArg act (read0 x0 r k))) (read1 x1 k n)) (read2 x2 n)

/-- The output block. -/
theorem out3 (y : S8x1024.Idx) : out0_3 (F := Ideal) x0 x1 x2 y = (∑ k : Fin 1024, act (x0 (ix2 (y 0) k)) * x1 (ix2 k (y 1))) + x2 (ix2 0 (y 1)) := by
  unfold out0_3
  rw [pay_eq]
  canon_tiles x h
  all_goals
    rw [show y 0 = x 0 from Fin.ext h0, show y 1 = x 1 from Fin.ext h1]
    refine Eq.trans (congrArg (through (lit (View.ld x0 r0_0)) (View.ld x1 r0_1) (View.ld x2 r0_2)) ?_) (stored_at x0 x1 x2 (x 0) (x 1))
    funext a
    match a with
    | ⟨0, _⟩ => rfl
    | ⟨1, _⟩ => rfl

end Cert.Kernel7Ideal.RefValue
end
-- ==== Proof.Ada.Final.lean ====
/- The modulation kernel's blocks at a grid point, and its result as the reference's. -/
module

public import proofs.«01_k».proof.Proof.Ada.Stores
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen
open Cert.Reference7Ideal.Spec (act modulation)

variable (m : (ℓ : Loc nD τ sig) → Buf (Elt Ideal) ℓ)

/-- Where each window's block lies at a grid point: the stretch `t` of the columns. -/
theorem idx : ∀ t : Fin cfg0.N, win0_0.index t = ![0, 0] ∧ win0_1.index t = ![0, t.val] ∧ win0_2.index t = ![0, t.val] ∧ win0_3.index t = ![0, t.val] ∧ t.val < 6 :=
  (by decide +kernel : ∀ t : Fin grid0.N, _)

/-- The weight as the kernel reads it. -/
theorem sheet (w : FVec Ideal S1x1024x6144 .f32) (k : Fin 1024) (n : Fin 6144) : shapeCast S1024x6144 w shapeCasts_S1x1024x6144_S1024x6144 (ix2 k n) = w (ix3 0 k n) := by
  pointwise

/-- The bias as the kernel reads it. -/
theorem strip (b : FVec Ideal S1x6144 .f32) (n : Fin 6144) :
    shapeCast S1x6144 (shapeCast S6144 b shapeCasts_S1x6144_S6144) shapeCasts_S6144_S1x6144 (ix2 0 n) = b (ix2 0 n) := by
  pointwise

/-- The weight, as the host lays it out. -/
theorem V_weight (c : Dev nD) : V m c main_v0 = shapeCast S1024x6144 (m ((c : Thread nD τ).loc main_arg1)) shapeCasts_S1x1024x6144_S1024x6144 := by
  unfold V
  simp only [hostOps0, List.flatten_cons, List.flatten_nil, List.append_nil, List.cons_append, List.nil_append]
  after_results; try rfl

/-- The bias, as the host lays it out. -/
theorem V_bias (c : Dev nD) : V m c main_v2 = shapeCast S1x6144 (shapeCast S6144 (m ((c : Thread nD τ).loc main_arg2)) shapeCasts_S1x6144_S6144) shapeCasts_S6144_S1x6144 := by
  unfold V
  simp only [hostOps0, List.flatten_cons, List.flatten_nil, List.append_nil, List.cons_append, List.nil_append]
  after_results; try rfl

variable (c : Dev nD) (t : Fin cfg0.N)

/-- The conditions at a point. -/
theorem x_at (r : Fin 8) (k : Fin 1024) :
    (show FVec Ideal S8x1024 .f32 from iblk m c 0 t) (ix2 r k) = m ((c : Thread nD τ).loc main_arg0) (ix2 r k) := by
  show V m c main_arg0 ((win0_0.blk t).view.emb (ix2 r k)) = _
  have hi : (win0_0.blk t).view.emb (ix2 r k) = ix2 r k := by blk_ext [idx t]
  rw [hi, V_main_arg0]

/-- The weight at a point. -/
theorem w_at (k n : Fin 1024) (q : Fin 6144) (hq : (q : ℕ) = t.val * 1024 + n) :
    (show FVec Ideal S1024x1024 .f32 from iblk m c 1 t) (ix2 k n) = m ((c : Thread nD τ).loc main_arg1) (ix3 0 k q) := by
  show V m c main_v0 ((win0_1.blk t).view.emb (ix2 k n)) = _
  have hi : (win0_1.blk t).view.emb (ix2 k n) = ix2 k q := by blk_ext [idx t]
  rw [hi, V_weight]
  exact sheet _ k q

/-- The bias at a point. -/
theorem b_at (n : Fin 1024) (q : Fin 6144) (hq : (q : ℕ) = t.val * 1024 + n) :
    (show FVec Ideal S1x1024 .f32 from iblk m c 2 t) (ix2 0 n) = m ((c : Thread nD τ).loc main_arg2) (ix2 0 q) := by
  show V m c main_v2 ((win0_2.blk t).view.emb (ix2 0 n)) = _
  have hi : (win0_2.blk t).view.emb (ix2 0 n) = ix2 0 q := by blk_ext [idx t]
  rw [hi, V_bias]
  exact strip _ q

/-- The result is the reference's modulation. -/
theorem final (c : Dev nD) : (dats m 0 c).arrAt 3 cfg0.N
    = modulation (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (out3 _ _ _ y).trans ?_
  obtain ⟨r, q, hi, hr, hq⟩ : ∃ (r : Fin 8) (q : Fin 6144), (win0_3.blk t).view.emb y = ix2 r q ∧ r = y 0 ∧ (q : ℕ) = t.val * 1024 + y 1 := by
    refine ⟨(win0_3.blk t).view.emb y 0, (win0_3.blk t).view.emb y 1, by blk_ext, Fin.ext ?_, ?_⟩
    all_goals (blk_simp [idx t] <;> try omega)
  subst hr
  rw [hi]
  refine Eq.trans ?_ (Cert.Reference7Ideal.Spec.modulation_at _ _ _ (y 0) q).symm
  exact congrArg₂ (· + ·) (Finset.sum_congr rfl fun k _ => congrArg₂ (· * ·) (congrArg act (x_at m c t (y 0) k)) (w_at m c t k (y 1) q hq)) (b_at m c t (y 1) q hq)

end Cert.Kernel7Ideal.RefValue
end
-- ==== Proof.Ada.Pair.lean ====
/- The modulation kernel and its reference end with the same result. -/
module

public import proofs.«01_k».proof.Defs
public import proofs.«01_k».proof.Proof.Ada.Final
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The modulation's reference leaves its arguments as they were and its semaphores at zero. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The modulation kernel and its reference end with the same result array. -/
theorem ada_algebraic : Cert.algebraic_Kernel7Ideal_Reference7Ideal := by
  intro m g m' g' _ ha
  refine ⟨fun c => (Cert.Kernel7Ideal.Gen.dats m 0 c).arrAt 3 Cert.Kernel7Ideal.cfg0.N, ?_, ?_⟩
  · exact Cert.Kernel7Ideal.Value.run_blocks m g
  · refine (θ_run Cert.Reference7Ideal.defs _ _).mono (fun r h c => ?_) (Cert.Reference7Ideal.Value.run (F := Ideal) m' g')
    obtain ⟨h0, h1, h2⟩ := ha c
    refine ⟨(h c).1.trans (Eq.trans ?_ (Cert.Kernel7Ideal.RefValue.final m c).symm), (h c).2⟩
    rw [h0, h1, h2]
    rfl

end Cert.Proof
end
-- ==== Proof.lean ====
/- Each kernel ends with its arguments as they were and its results at its reference's. The values are `Proof/Ffn.lean` (the
   expert feed-forward), `Proof/InProj/` (the in-projection), `Proof/OutProj/` (the out-projection), `Proof/Combine/` (the
   combination of the experts), `Proof/Gather/` (the gathering of the experts' tokens) and `Proof/Ada/` (the modulation). -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Ffn
public import proofs.«01_k».proof.Proof.InProj.Pair
public import proofs.«01_k».proof.Proof.OutProj.Pair
public import proofs.«01_k».proof.Proof.Combine.Pair
public import proofs.«01_k».proof.Proof.Gather.Pair
public import proofs.«01_k».proof.Proof.Ada.Pair
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The feed-forward's reference leaves its arguments as they were and its semaphores at zero. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The feed-forward kernel and its reference end with the same result array. -/
theorem ffn_algebraic : Cert.algebraic_Kernel2Ideal_Reference2Ideal := by
  pair_intro
  · run_from Cert.Kernel2Ideal.Gen.run_main m g
  · run_from Cert.Reference2Ideal.Value.run m' g'
    exact (Cert.Kernel2Ideal.RefValue.final m c).symm

/-- Every claim of `Defs.lean`. -/
theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  trivial, ffn_algebraic, trivial, inproj_algebraic, trivial, outproj_algebraic, trivial, combine_algebraic, trivial, gather_algebraic,
  trivial, ada_algebraic⟩

end Cert.Proof

end
